-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S512x2048 : Shape := ⟨2, ![512, 2048]⟩
abbrev S2x512x2048 : Shape := ⟨3, ![2, 512, 2048]⟩
abbrev S_ : Shape := ⟨0, ![]⟩
abbrev S2 : Shape := ⟨1, ![2]⟩
abbrev S512x512 : Shape := ⟨2, ![512, 512]⟩
abbrev S1 : Shape := ⟨1, ![1]⟩
abbrev S1x512x2048 : Shape := ⟨3, ![1, 512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S512x2048, .f32⟩
  | .local _ .vmem, ⟨3, _⟩ => ⟨S512x2048, .f32⟩
  | .local _ .vmem, ⟨4, _⟩ => ⟨S2x512x2048, .f32⟩
  | .local _ .vmem, ⟨5, _⟩ => ⟨S2x512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let v15 : BitVec 32 := Scalar.subi v14 c0_i32_12
  let c8_i32_13 : BitVec 32 := 8#32
  let v16 : BitVec 32 := Scalar.remsi v15 c8_i32_13
  let c512_i32 : BitVec 32 := 512#32
  let v20 : BitVec 32 := Scalar.muli v16 c512_i32
  let v21 : Index := Scalar.indexCast v20
  let c0 : Index := 0#32
  ![v21.toNat, 0]
def k0_off2 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v17 : BitVec 32 := Scalar.addi v2 c1_i32_14
  let v18 : BitVec 32 := Scalar.addi v17 c0_i32_15
  let c8_i32_16 : BitVec 32 := 8#32
  let v19 : BitVec 32 := Scalar.remsi v18 c8_i32_16
  let c512_i32_19 : BitVec 32 := 512#32
  let v27 : BitVec 32 := Scalar.muli v19 c512_i32_19
  let v28 : Index := Scalar.indexCast v27
  let c0_20 : Index := 0#32
  ![v28.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_27 : BitVec 32 := 1#32
  let v37 : BitVec 32 := Scalar.muli v7 c1_i32_27
  let v38 : BitVec 32 := Scalar.addi c0_i32_28 v37
  v38.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_35 : BitVec 32 := 1#32
  let v46 : BitVec 32 := Scalar.muli v5 c1_i32_35
  let v47 : BitVec 32 := Scalar.addi c0_i32_36 v46
  v47.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_73 : BitVec 32 := 1#32
  let v87 : BitVec 32 := Scalar.muli v5 c1_i32_73
  let v88 : BitVec 32 := Scalar.addi c0_i32_74 v87
  v88.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_77 : BitVec 32 := 1#32
  let v89 : BitVec 32 := Scalar.muli v7 c1_i32_77
  let v90 : BitVec 32 := Scalar.addi c0_i32_78 v89
  v90.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_98 : BitVec 32 := 1#32
  let v109 : BitVec 32 := Scalar.muli v7 c1_i32_98
  let v110 : BitVec 32 := Scalar.addi c0_i32_99 v109
  v110.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_102 : BitVec 32 := 1#32
  let v111 : BitVec 32 := Scalar.muli v5 c1_i32_102
  let v112 : BitVec 32 := Scalar.addi c0_i32_103 v111
  v112.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_139 : BitVec 32 := 1#32
  let v152 : BitVec 32 := Scalar.muli v5 c1_i32_139
  let v153 : BitVec 32 := Scalar.addi c0_i32_140 v152
  v153.toNat
def k0_dev10 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_145 : BitVec 32 := 1#32
  let v154 : BitVec 32 := Scalar.muli v7 c1_i32_145
  let v155 : BitVec 32 := Scalar.addi c0_i32_146 v154
  v155.toNat
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_166 : BitVec 32 := 1#32
  let v174 : BitVec 32 := Scalar.muli v7 c1_i32_166
  let v175 : BitVec 32 := Scalar.addi c0_i32_167 v174
  v175.toNat
def k0_dev12 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_172 : BitVec 32 := 1#32
  let v176 : BitVec 32 := Scalar.muli v5 c1_i32_172
  let v177 : BitVec 32 := Scalar.addi c0_i32_173 v176
  v177.toNat
def k0_dev13 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_209 : BitVec 32 := 1#32
  let v217 : BitVec 32 := Scalar.muli v5 c1_i32_209
  let v218 : BitVec 32 := Scalar.addi c0_i32_210 v217
  v218.toNat
def k0_dev14 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_215 : BitVec 32 := 1#32
  let v219 : BitVec 32 := Scalar.muli v7 c1_i32_215
  let v220 : BitVec 32 := Scalar.addi c0_i32_216 v219
  v220.toNat
def k0_dev15 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_236 : BitVec 32 := 1#32
  let v239 : BitVec 32 := Scalar.muli v7 c1_i32_236
  let v240 : BitVec 32 := Scalar.addi c0_i32_237 v239
  v240.toNat
def k0_dev16 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_242 : BitVec 32 := 1#32
  let v241 : BitVec 32 := Scalar.muli v5 c1_i32_242
  let v242 : BitVec 32 := Scalar.addi c0_i32_243 v241
  v242.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_279 : BitVec 32 := 1#32
  let v282 : BitVec 32 := Scalar.muli v5 c1_i32_279
  let v283 : BitVec 32 := Scalar.addi c0_i32_280 v282
  v283.toNat
def k0_dev18 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_285 : BitVec 32 := 1#32
  let v284 : BitVec 32 := Scalar.muli v7 c1_i32_285
  let v285 : BitVec 32 := Scalar.addi c0_i32_286 v284
  v285.toNat
def k0_dev19 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_306 : BitVec 32 := 1#32
  let v304 : BitVec 32 := Scalar.muli v7 c1_i32_306
  let v305 : BitVec 32 := Scalar.addi c0_i32_307 v304
  v305.toNat
def k0_dev20 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_312 : BitVec 32 := 1#32
  let v306 : BitVec 32 := Scalar.muli v5 c1_i32_312
  let v307 : BitVec 32 := Scalar.addi c0_i32_313 v306
  v307.toNat
def k0_dev21 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_349 : BitVec 32 := 1#32
  let v347 : BitVec 32 := Scalar.muli v5 c1_i32_349
  let v348 : BitVec 32 := Scalar.addi c0_i32_350 v347
  v348.toNat
def k0_dev22 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_355 : BitVec 32 := 1#32
  let v349 : BitVec 32 := Scalar.muli v7 c1_i32_355
  let v350 : BitVec 32 := Scalar.addi c0_i32_356 v349
  v350.toNat
def k0_dev23 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_376 : BitVec 32 := 1#32
  let v369 : BitVec 32 := Scalar.muli v7 c1_i32_376
  let v370 : BitVec 32 := Scalar.addi c0_i32_377 v369
  v370.toNat
def k0_dev24 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_382 : BitVec 32 := 1#32
  let v371 : BitVec 32 := Scalar.muli v5 c1_i32_382
  let v372 : BitVec 32 := Scalar.addi c0_i32_383 v371
  v372.toNat
def k0_dev25 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_419 : BitVec 32 := 1#32
  let v412 : BitVec 32 := Scalar.muli v5 c1_i32_419
  let v413 : BitVec 32 := Scalar.addi c0_i32_420 v412
  v413.toNat
def k0_dev26 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_425 : BitVec 32 := 1#32
  let v414 : BitVec 32 := Scalar.muli v7 c1_i32_425
  let v415 : BitVec 32 := Scalar.addi c0_i32_426 v414
  v415.toNat
def k0_dev27 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_446 : BitVec 32 := 1#32
  let v434 : BitVec 32 := Scalar.muli v7 c1_i32_446
  let v435 : BitVec 32 := Scalar.addi c0_i32_447 v434
  v435.toNat
def k0_dev28 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_452 : BitVec 32 := 1#32
  let v436 : BitVec 32 := Scalar.muli v5 c1_i32_452
  let v437 : BitVec 32 := Scalar.addi c0_i32_453 v436
  v437.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_456 : BitVec 32 := 512#32
  let v442 : BitVec 32 := Scalar.muli v2 c512_i32_456
  let v443 : Index := Scalar.indexCast v442
  let c0_457 : Index := 0#32
  ![v443.toNat, 0]
def k0_dev29 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_487 : BitVec 32 := 1#32
  let v483 : BitVec 32 := Scalar.muli v5 c1_i32_487
  let v484 : BitVec 32 := Scalar.addi c0_i32_488 v483
  v484.toNat
def k0_dev30 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_512 : BitVec 32 := 1#32
  let v513 : BitVec 32 := Scalar.muli v7 c1_i32_512
  let v514 : BitVec 32 := Scalar.addi c0_i32_513 v513
  v514.toNat
def k0_dev31 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_540 : BitVec 32 := 1#32
  let v542 : BitVec 32 := Scalar.muli v7 c1_i32_540
  let v543 : BitVec 32 := Scalar.addi c0_i32_541 v542
  v543.toNat
def k0_dev32 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_550 : BitVec 32 := 1#32
  let v551 : BitVec 32 := Scalar.muli v5 c1_i32_550
  let v552 : BitVec 32 := Scalar.addi c0_i32_551 v551
  v552.toNat
def k0_dev33 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_588 : BitVec 32 := 1#32
  let v592 : BitVec 32 := Scalar.muli v5 c1_i32_588
  let v593 : BitVec 32 := Scalar.addi c0_i32_589 v592
  v593.toNat
def k0_dev34 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_594 : BitVec 32 := 1#32
  let v594 : BitVec 32 := Scalar.muli v7 c1_i32_594
  let v595 : BitVec 32 := Scalar.addi c0_i32_595 v594
  v595.toNat
def k0_dev35 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_615 : BitVec 32 := 1#32
  let v614 : BitVec 32 := Scalar.muli v7 c1_i32_615
  let v615 : BitVec 32 := Scalar.addi c0_i32_616 v614
  v615.toNat
def k0_dev36 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_621 : BitVec 32 := 1#32
  let v616 : BitVec 32 := Scalar.muli v5 c1_i32_621
  let v617 : BitVec 32 := Scalar.addi c0_i32_622 v616
  v617.toNat
def k0_dev37 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_659 : BitVec 32 := 1#32
  let v657 : BitVec 32 := Scalar.muli v5 c1_i32_659
  let v658 : BitVec 32 := Scalar.addi c0_i32_660 v657
  v658.toNat
def k0_dev38 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_665 : BitVec 32 := 1#32
  let v659 : BitVec 32 := Scalar.muli v7 c1_i32_665
  let v660 : BitVec 32 := Scalar.addi c0_i32_666 v659
  v660.toNat
def k0_dev39 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_686 : BitVec 32 := 1#32
  let v679 : BitVec 32 := Scalar.muli v7 c1_i32_686
  let v680 : BitVec 32 := Scalar.addi c0_i32_687 v679
  v680.toNat
def k0_dev40 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_692 : BitVec 32 := 1#32
  let v681 : BitVec 32 := Scalar.muli v5 c1_i32_692
  let v682 : BitVec 32 := Scalar.addi c0_i32_693 v681
  v682.toNat
def k0_dev41 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_730 : BitVec 32 := 1#32
  let v722 : BitVec 32 := Scalar.muli v5 c1_i32_730
  let v723 : BitVec 32 := Scalar.addi c0_i32_731 v722
  v723.toNat
def k0_dev42 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_736 : BitVec 32 := 1#32
  let v724 : BitVec 32 := Scalar.muli v7 c1_i32_736
  let v725 : BitVec 32 := Scalar.addi c0_i32_737 v724
  v725.toNat
def k0_dev43 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_757 : BitVec 32 := 1#32
  let v744 : BitVec 32 := Scalar.muli v7 c1_i32_757
  let v745 : BitVec 32 := Scalar.addi c0_i32_758 v744
  v745.toNat
def k0_dev44 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_763 : BitVec 32 := 1#32
  let v746 : BitVec 32 := Scalar.muli v5 c1_i32_763
  let v747 : BitVec 32 := Scalar.addi c0_i32_764 v746
  v747.toNat
def k0_dev45 (d0 : Dev nD) : Nat :=
  let c0_i32_802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_801 : BitVec 32 := 1#32
  let v787 : BitVec 32 := Scalar.muli v5 c1_i32_801
  let v788 : BitVec 32 := Scalar.addi c0_i32_802 v787
  v788.toNat
def k0_dev46 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_807 : BitVec 32 := 1#32
  let v789 : BitVec 32 := Scalar.muli v7 c1_i32_807
  let v790 : BitVec 32 := Scalar.addi c0_i32_808 v789
  v790.toNat
def k0_dev47 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_828 : BitVec 32 := 1#32
  let v809 : BitVec 32 := Scalar.muli v7 c1_i32_828
  let v810 : BitVec 32 := Scalar.addi c0_i32_829 v809
  v810.toNat
def k0_dev48 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_834 : BitVec 32 := 1#32
  let v811 : BitVec 32 := Scalar.muli v5 c1_i32_834
  let v812 : BitVec 32 := Scalar.addi c0_i32_835 v811
  v812.toNat
def k0_dev49 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_872 : BitVec 32 := 1#32
  let v852 : BitVec 32 := Scalar.muli v5 c1_i32_872
  let v853 : BitVec 32 := Scalar.addi c0_i32_873 v852
  v853.toNat
def k0_dev50 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_878 : BitVec 32 := 1#32
  let v854 : BitVec 32 := Scalar.muli v7 c1_i32_878
  let v855 : BitVec 32 := Scalar.addi c0_i32_879 v854
  v855.toNat
def k0_dev51 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_899 : BitVec 32 := 1#32
  let v874 : BitVec 32 := Scalar.muli v7 c1_i32_899
  let v875 : BitVec 32 := Scalar.addi c0_i32_900 v874
  v875.toNat
def k0_dev52 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_905 : BitVec 32 := 1#32
  let v876 : BitVec 32 := Scalar.muli v5 c1_i32_905
  let v877 : BitVec 32 := Scalar.addi c0_i32_906 v876
  v877.toNat
def k0_dev53 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_946 : BitVec 32 := 1#32
  let v917 : BitVec 32 := Scalar.muli v7 c1_i32_946
  let v918 : BitVec 32 := Scalar.addi c0_i32_947 v917
  v918.toNat
def k0_dev54 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_970 : BitVec 32 := 1#32
  let v937 : BitVec 32 := Scalar.muli v5 c1_i32_970
  let v938 : BitVec 32 := Scalar.addi c0_i32_971 v937
  v938.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Program.lean ====
/-
  The kernel's body as a program over its two rings. The printed body is one straight line of effects; here it is cut
  into the pieces its source is written from — one step of a ring, the last step of a pass, a pass —, each piece stated once
  for both rings and for every step. The theorem `body_eq` says the printed body is this program.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.SL.Sem
open Idealize.ShloMosaic.TcCoe

variable {F : FTy → Type} [FloatOps F]

/-! ## The two rings -/

/-- The two rings: `R` passes partial sums to the next device, `L` to the one before. -/
inductive Way | R | L
  deriving DecidableEq

instance : Fintype Way := ⟨{.R, .L}, fun w => by cases w <;> decide⟩

/-- The staged blocks of the two arguments, the result array. -/
abbrev xM : Memref sig .tc .vmem S4096x512 .f32 := Memref.whole cc0_stg0_0
abbrev wM : Memref sig .tc .vmem S512x8192 .f32 := Memref.whole cc0_stg1_0
abbrev oM : Memref sig .tc .hbm S512x8192 .f32 := Memref.whole main_v1

/-- The buffer a ring sends from. -/
def sB : Way → Memref sig .tc .vmem S512x2048 .f32
  | .R => Memref.whole cc0_scratch0 | .L => Memref.whole cc0_scratch1
/-- The two slots a ring receives into, as one buffer. -/
def rB : Way → Memref sig .tc .vmem S2x512x2048 .f32
  | .R => Memref.whole cc0_scratch2 | .L => Memref.whole cc0_scratch3
/-- A ring's semaphores: sends read out, arrivals (one per slot), copies to the result, credits. -/
def sndS : Way → DmaSems sig S_ | .R => cc0_scratch4 | .L => cc0_scratch5
def rcvS : Way → DmaSems sig S2 | .R => cc0_scratch6 | .L => cc0_scratch7
def outS : Way → DmaSems sig S_ | .R => cc0_scratch8 | .L => cc0_scratch9
def crdS : Way → Sems sig S_ | .R => cc0_scratch10 | .L => cc0_scratch11

theorem sB_whole (w : Way) : (sB w).IsWhole := by cases w <;> exact Memref.isWhole_whole _

/-- The device a ring sends to, and the one it receives from. -/
def dst (w : Way) (c : Dev nD) : Dev nD := match w with
  | .R => ⟨k0_dev2 c, k0_dev2_lt c⟩ | .L => ⟨k0_dev1 c, k0_dev1_lt c⟩
def src (w : Way) (c : Dev nD) : Dev nD := match w with
  | .R => ⟨k0_dev1 c, k0_dev1_lt c⟩ | .L => ⟨k0_dev2 c, k0_dev2_lt c⟩

/-- The slot that step `k` uses. -/
abbrev par (k : ℕ) : Fin 2 := ⟨k % 2, Nat.mod_lt _ (by decide)⟩

theorem inb_slot (p : Fin 2) : ∀ a, ![p.val, 0, 0] a + S1x512x2048.size a ≤ S2x512x2048.size a := by revert p; decide
theorem inb_sem (p : Fin 2) : ∀ a, ![p.val] a + S1.size a ≤ S2.size a := by revert p; decide
theorem inb_quarter (q : Fin 4) : ∀ a, ![0, 2048 * q.val] a + S512x2048.size a ≤ S512x8192.size a := by revert q; decide

/-- One slot, as a matrix. -/
def slotM (w : Way) (p : Fin 2) : Memref sig .tc .vmem S512x2048 .f32 :=
  ((rB w).slice (Rect.unit (s := S2x512x2048) ![p.val, 0, 0] S1x512x2048.size (inb_slot p)) (fun _ => rfl)).squeeze S512x2048 squeezes_S1x512x2048_S512x2048
/-- The semaphore that counts the arrivals in a slot. -/
def rcvSem (w : Way) (p : Fin 2) : DmaSem sig :=
  (((rcvS w).slice (Rect.unit (s := S2) ![p.val] S1.size (inb_sem p))).squeeze S_ squeezes_S1_S_).sem
/-- A quarter of the result's columns. -/
def outM (q : Fin 4) : Memref sig .tc .hbm S512x2048 .f32 :=
  oM.slice (Rect.unit (s := S512x8192) ![0, 2048 * q.val] S512x2048.size (inb_quarter q)) (fun _ => rfl)

/-- The quarter of the columns a ring reduces in a pass. -/
def quarter (w : Way) (jq : Fin 2) : Fin 4 := match w with
  | .R => ⟨jq.val, by omega⟩ | .L => ⟨2 + jq.val, by omega⟩

/-- The offset of the rows of the argument block that step `t` of a ring multiplies. -/
def rowOff (w : Way) (c : Dev nD) (t : Fin 7) : Fin 2 → Nat := match w with
  | .R => k0_off1 c (BitVec.ofNat 32 t.val) | .L => k0_off2 c (BitVec.ofNat 32 t.val)
theorem rowOff_inb (w : Way) (c : Dev nD) (t : Fin 7) : ∀ a, (rowOff w c t) a + S512x512.size a ≤ S4096x512.size a := by
  cases w
  · exact k0_off1_inb c t
  · exact k0_off2_inb c t

/-! ## The values -/

/-- One partial product. -/
def mm (a : Vec F S512x512 .f32) (b : Vec F S512x2048 .f32) : FVec F S512x2048 .f32 :=
  matmul dot_S512x512_S512x2048_S512x2048_1_0_0_1_n_n none (shapeCast S512x512 a shapeCasts_S512x512_S512x512)
    (shapeCast S512x2048 b shapeCasts_S512x2048_S512x2048) (constant S512x2048 .f32 0x00000000#32)

/-- A partial product as it is stored. -/
def putV (p : FVec F S512x2048 .f32) : FVec F S512x2048 .f32 := shapeCast S512x2048 p shapeCasts_S512x2048_S512x2048

/-- What has arrived, plus a partial product. -/
def sumV (p : FVec F S512x2048 .f32) (v : Vec F S1x512x2048 .f32) : FVec F S512x2048 .f32 :=
  addf (shapeCast S512x2048 v shapeCasts_S1x512x2048_S512x2048) p

/-- The activation, elementwise: half of `y` times one plus the tanh of a cubic in `y`. -/
def geluV (y : FVec F S512x2048 .f32) : FVec F S512x2048 .f32 :=
  mulf (mulf (broadcast S512x2048 (Scalar.ofBits .f32 0x3F000000#32)) y)
    (addf (broadcast S512x2048 (Scalar.ofBits .f32 0x3F800000#32))
      (tanh (mulf (broadcast S512x2048 (Scalar.ofBits .f32 0x3F4C422A#32))
        (addf y (mulf (mulf (mulf (broadcast S512x2048 (Scalar.ofBits .f32 0x3D372713#32)) y) y) y)))))

/-! ## The pieces -/

/-- Programs of the kernel's thread. -/
abbrev P (α : Type) := Prog (TpuEff nD τ sig (Elt F) Λ₀ .tc) α

/-- Reads 512 rows of the argument block. -/
def ldX (off : Fin 2 → Nat) (h : ∀ a, off a + S512x512.size a ≤ S4096x512.size a) : P (F := F) (Vec F S512x512 .f32) :=
  Prog.lift (.load xM (Rect.unit (s := S4096x512) off S512x512.size h).toLoadRect (View.loadsAt_vmem h_S512x512))
/-- Reads a quarter of the columns of the weight block. -/
def ldW (q : Fin 4) : P (F := F) (Vec F S512x2048 .f32) :=
  Prog.lift (.load wM (Rect.unit (s := S512x8192) ![0, 2048 * q.val] S512x2048.size (inb_quarter q)).toLoadRect (View.loadsAt_vmem h_S512x2048))

/-- One partial product: the rows at `off` times the quarter `q`. -/
def part (off : Fin 2 → Nat) (h : ∀ a, off a + S512x512.size a ≤ S4096x512.size a) (q : Fin 4) : P (F := F) (FVec F S512x2048 .f32) := do
  let a ← ldX off h
  let b ← ldW q
  pure (mm a b)

abbrev rS : Rect S512x2048 := Rect.unit (s := S512x2048) ![0, 0] S512x2048.size inb_S512x2048_S512x2048_0_0

/-- Writes the send buffer (the printed kernel reads it first and drops what it read). -/
def stS (w : Way) (v : FVec F S512x2048 .f32) : P (F := F) PUnit := do
  let _ ← Prog.lift (.load (sB w) rS.toLoadRect (View.loadsAt_vmem h_S512x2048))
  Prog.lift (.store (sB w) rS v Finset.univ (View.stores_vmem_bits_univ h_S512x2048 rfl) (.inl rfl))

/-- Waits for the read-out of the last send and for the arrival of step `k`. -/
def waitP (w : Way) (k : ℕ) : P (F := F) PUnit := do
  Prog.lift (.waitDma2 (sndS w).sem (slotM w (par k)) (sB w) ((View.wordExact_bits rfl).reshape _ _) (sB_whole w).wordExact)
  Prog.lift (.waitDma2 (rcvSem w (par k)) (sB w) (slotM w (par k)) (sB_whole w).wordExact ((View.wordExact_bits rfl).reshape _ _))

/-- Reads the slot of step `k`. -/
def ldR (w : Way) (k : ℕ) : P (F := F) (Vec F S1x512x2048 .f32) :=
  Prog.lift (.load (rB w) (Rect.unit (s := S2x512x2048) ![(par k).val, 0, 0] S1x512x2048.size (inb_slot (par k))).toLoadRect (View.loadsAt_vmem h_S1x512x2048))

/-- Tells the upstream device that a slot has been read. -/
def sigP (w : Way) (c : Dev nD) : P (F := F) PUnit := semSignalWord (src w c) (crdS w).sem 1#32
/-- Waits for one credit. -/
def crdP (w : Way) : P (F := F) PUnit := semWaitWord (crdS w).sem 1#32
/-- Sends the send buffer into the downstream device's slot of step `k`. -/
def sendP (w : Way) (c : Dev nD) (k : ℕ) : P (F := F) PUnit :=
  Prog.lift (.enqueueDma (sB w) (.remote (Dev.tc (dst w c)) (slotM w (par k)) (.dma (sndS w).sem)) (.dma (rcvSem w (par k)))
    (sB_whole w).wordExact ((View.wordExact_bits rfl).reshape _ _) ⟨⟨rfl, Or.inl rfl⟩, trivial⟩)

/-- The first half of step `k` of a ring, which fills the send buffer: on the first step of a pass with the partial product
    `p`, on the others with what has arrived plus `p`; the read slot is handed back by a credit. -/
def fillP (w : Way) (c : Dev nD) (k : ℕ) (p : FVec F S512x2048 .f32) : P (F := F) PUnit :=
  match k % 7 with
  | 0 => stS w (putV p)
  | _ + 1 => do
    waitP w (k - 1)
    let v ← ldR w (k - 1)
    stS w (putV (sumV p v))
    cond (Nat.ble k 12) (sigP w c) (pure ⟨⟩)

/-- Step `k` of a ring. -/
def stepP (w : Way) (c : Dev nD) (k : ℕ) (p : FVec F S512x2048 .f32) : P (F := F) PUnit := do
  fillP w c k p
  cond (Nat.ble 2 k) (crdP w) (pure ⟨⟩)
  sendP w c k

/-- Step `k` of both rings: the two partial products, then the ring `R`, then the ring `L`. -/
def stepsP (c : Dev nD) (jq : Fin 2) (t : Fin 7) : P (F := F) PUnit := do
  let p ← part (rowOff .R c t) (rowOff_inb .R c t) (quarter .R jq)
  let p' ← part (rowOff .L c t) (rowOff_inb .L c t) (quarter .L jq)
  stepP .R c (7 * jq.val + t.val) p
  stepP .L c (7 * jq.val + t.val) p'

/-- The end of pass `jq` of a ring: the last arrival plus the device's own partial product, activated and copied to its quarter
    of the result. -/
def endP (w : Way) (c : Dev nD) (jq : Fin 2) (p : FVec F S512x2048 .f32) : P (F := F) PUnit := do
  waitP w (7 * jq.val + 6)
  let v ← ldR w (7 * jq.val + 6)
  stS w (putV (geluV (sumV p v)))
  cond (Nat.beq jq.val 0) (sigP w c) (pure ⟨⟩)
  Prog.lift (.enqueueDma (sB w) (.here (outM (quarter w jq))) (.dma (outS w).sem) (sB_whole w).wordExact (View.wordExact_bits rfl) ⟨Or.inl rfl, trivial⟩)

/-- Waits for the copy of a quarter of the result. -/
def waitO (w : Way) (jq : Fin 2) : P (F := F) PUnit :=
  Prog.lift (.waitDma2 (outS w).sem (sB w) (outM (quarter w jq)) (sB_whole w).wordExact (View.wordExact_bits rfl))

/-- The steps of pass `jq` from `t` on, `n` of them. -/
def loopP (c : Dev nD) (jq : Fin 2) : (n t : ℕ) → t + n ≤ 7 → P (F := F) PUnit
  | 0, _, _ => pure ⟨⟩
  | n + 1, t, h => do
    stepsP c jq ⟨t, by omega⟩
    loopP c jq n (t + 1) (by omega)

/-- A pass. -/
def passP (c : Dev nD) (jq : Fin 2) : P (F := F) PUnit := do
  loopP c jq 7 0 (by decide)
  let p ← part (k0_off3 c) (k0_off3_inb c) (quarter .R jq)
  let p' ← part (k0_off3 c) (k0_off3_inb c) (quarter .L jq)
  endP .R c jq p
  endP .L c jq p'
  waitO .R jq
  waitO .L jq

abbrev barS : Sem sig := (SemArray.scalar (sig.barrier 0 rfl) : Sems sig S_).sem

/-- The whole body: the handshake with both neighbours on the barrier semaphore, then the two passes. -/
def bodyP : P (F := F) PUnit := do
  let c ← Prog.lift .deviceId
  semSignalWord (src .R c) barS 1#32
  semSignalWord (dst .R c) barS 1#32
  semWaitWord barS 2#32
  passP c 0
  passP c 1

set_option maxRecDepth 65536 in
/-- The printed body, at the buffers the launch gives it, is that program. -/
theorem body_eq : cc0_body (F := F) (Memref.whole cc0_stg0_0) (Memref.isWhole_whole _) (Memref.whole cc0_stg1_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 = bodyP (F := F) := by
  rw [cc0_body_eq_skeleton]
  rfl

end Cert.KernelIdeal.Ring

end
-- ==== Proof.Sched.lean ====
/-
  The protocol of the two rings: what each buffer holds when, the cells (semaphores), and per cell its rounds — who pays, how
  much, and what the payment hands over.

  A ring makes fourteen sends, numbered `k = 0 … 13`, seven per pass. Send `k` fills the downstream device's slot `k % 2`.

  * send cell, one round per send: the send buffer comes back with what was sent;
  * arrival cell of slot `p`, one round per send of parity `p`: the slot comes with the sent contents;
  * result cell, one round per pass: the send buffer and a quarter of the result come back;
  * credit cell, one round of twelve units: the downstream device pays unit `j` after it has read arrival `j`. Two of its
    units may be delivered in either order, so a unit carries only facts: that slot `j % 2` has been released for send `j + 2`
    (and the same of send `j + 1`), and that the arrival cell is at that send's round. A wait that has consumed `j + 1` units has
    received some unit `i ≥ j`, and its facts imply unit `j`'s;
  * barrier cell, one round of two units, one from each neighbour, with those facts for the first two sends.

  A slot itself is handed back through an invariant (`Release`): the reader puts it there, the fact lets the sender take it out.
-/
module

public import proofs.«01_k».proof.Proof.Program
public import proofs.«01_k».proof.Proof.Gen.KernelIdeal.Launch
public import Idealize.ShloMosaic.Lib.Release
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The resource algebra: the pipeline library's, the rounds', and the slots' -/

/-- A slot: its reader, the ring, the parity. -/
abbrev Key : Type := Dev nD × Way × Fin 2
abbrev UA : Type := URounds (GSem nD τ sig) ℕ
abbrev UB : Type := UA × USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev EB : Emb UB (MT nD τ sig ℕ (Elt F) ℕ UU ℕ) := embR
abbrev ER : Emb UA (MT nD τ sig ℕ (Elt F) ℕ UU ℕ) := (Emb.inl : Emb UA UB).trans EB
abbrev ES : Emb (USlots Key) (MT nD τ sig ℕ (Elt F) ℕ UU ℕ) := (Emb.inr : Emb (USlots Key) UB).trans EB

variable (m : (ℓ : Loc nD τ sig) → Buf (Elt F) ℓ)

/-! ## Neighbours -/

theorem dst_src (w : Way) (c : Dev nD) : dst w (src w c) = c := by revert c; cases w <;> decide
theorem src_dst (w : Way) (c : Dev nD) : src w (dst w c) = c := by revert c; cases w <;> decide

/-- A ring as a permutation of the devices. -/
def ring (w : Way) : Dev nD ≃ Dev nD := ⟨dst w, src w, src_dst w, dst_src w⟩

/-! ## Contents -/

/-- A device's staged blocks of the two arguments. -/
def xst (c : Dev nD) : (cc0_stg0_0 : Ref sig .tc).ty.Contents (Elt F) :=
  (win0_0.blk (0 : Fin 1)).view.read (Elt F) (m ((c : Thread nD τ).loc main_arg0))
def wst (c : Dev nD) : (cc0_stg1_0 : Ref sig .tc).ty.Contents (Elt F) :=
  (win0_1.blk (0 : Fin 1)).view.read (Elt F) (m ((c : Thread nD τ).loc main_arg1))

/-- 512 rows of the argument block, and a quarter of the columns of the weight block. -/
def xRows (c : Dev nD) (off : Fin 2 → Nat) (h : ∀ a, off a + S512x512.size a ≤ S4096x512.size a) : Vec F S512x512 .f32 :=
  (xM : Memref sig .tc .vmem S4096x512 .f32).view.readAt (Elt F) (Rect.unit (s := S4096x512) off S512x512.size h).toLoadRect (xst m c)
def wCols (c : Dev nD) (q : Fin 4) : Vec F S512x2048 .f32 :=
  (wM : Memref sig .tc .vmem S512x8192 .f32).view.readAt (Elt F)
    (Rect.unit (s := S512x8192) ![0, 2048 * q.val] S512x2048.size (inb_quarter q)).toLoadRect (wst m c)

/-- The partial product of step `t` of pass `jq`, and the last one of the pass. -/
def prod (w : Way) (c : Dev nD) (jq : Fin 2) (t : Fin 7) : FVec F S512x2048 .f32 :=
  mm (xRows m c (rowOff w c t) (rowOff_inb w c t)) (wCols m c (quarter w jq))
def ownProd (w : Way) (c : Dev nD) (jq : Fin 2) : FVec F S512x2048 .f32 :=
  mm (xRows m c (k0_off3 c) (k0_off3_inb c)) (wCols m c (quarter w jq))

/-- The pass and the step within it of send `k`. -/
abbrev passOf (k : ℕ) : Fin 2 := ⟨k / 7 % 2, Nat.mod_lt _ (by decide)⟩
abbrev tOf (k : ℕ) : Fin 7 := ⟨k % 7, Nat.mod_lt _ (by decide)⟩

/-- What device `c` sends in send `k`: its partial product, with what send `k - 1` of the upstream device brought added unless
    the pass begins. -/
def val (w : Way) : ℕ → Dev nD → FVec F S512x2048 .f32
  | 0, c => putV (prod m w c (passOf 0) (tOf 0))
  | k + 1, c => match (k + 1) % 7 with
    | 0 => putV (prod m w c (passOf (k + 1)) (tOf (k + 1)))
    | _ + 1 => putV (addf (val w k (src w c)) (prod m w c (passOf (k + 1)) (tOf (k + 1))))

theorem val_start (w : Way) (k : ℕ) (c : Dev nD) (h : k % 7 = 0) : val m w k c = putV (prod m w c (passOf k) (tOf k)) := by
  cases k with
  | zero => rfl
  | succ k => unfold val; rw [h]

theorem val_step (w : Way) (k : ℕ) (c : Dev nD) (h : (k + 1) % 7 ≠ 0) :
    val m w (k + 1) c = putV (addf (val m w k (src w c)) (prod m w c (passOf (k + 1)) (tOf (k + 1)))) := by
  conv_lhs => unfold val
  obtain ⟨n, hn⟩ := Nat.exists_eq_succ_of_ne_zero h
  rw [hn]

/-- What device `c` writes into a quarter of the result. -/
def res (w : Way) (c : Dev nD) (jq : Fin 2) : FVec F S512x2048 .f32 :=
  putV (geluV (addf (val m w (7 * jq.val + 6) (src w c)) (ownProd m w c jq)))

/-! ## The cells -/

/-- The kernel's semaphores: the barrier; and per ring the sends read out, the arrivals in a slot, the copies to the result, the
    credits. -/
inductive Kd | bar | snd (w : Way) | rcv (w : Way) (p : Fin 2) | out (w : Way) | crd (w : Way)
  deriving DecidableEq

def allKd : List Kd := [.bar, .snd .R, .snd .L, .rcv .R 0, .rcv .R 1, .rcv .L 0, .rcv .L 1, .out .R, .out .L, .crd .R, .crd .L]
theorem mem_allKd (k : Kd) : k ∈ allKd := by
  unfold allKd
  cases k with
  | bar => decide
  | snd w => cases w <;> decide
  | rcv w p => revert p; cases w <;> decide
  | out w => cases w <;> decide
  | crd w => cases w <;> decide
theorem nodup_allKd : allKd.Nodup := by decide
instance : Fintype Kd := ⟨⟨allKd, nodup_allKd⟩, mem_allKd⟩

@[reducible] def ksem : Kd → SemLoc sig
  | .bar => .reg barS
  | .snd w => .dma (sndS w).sem
  | .rcv w p => .dma (rcvSem w p)
  | .out w => .dma (outS w).sem
  | .crd w => .reg (crdS w).sem

theorem ksem_inj : Function.Injective ksem := by
  have h : ∀ a ∈ allKd, ∀ b ∈ allKd, ksem a = ksem b → a = b := by decide
  exact fun a b e => h a (mem_allKd a) b (mem_allKd b) e

/-- A device's semaphore as a cell. -/
abbrev cell (c : Dev nD) (k : Kd) : GSem nD τ sig := ((c : Thread nD τ), ksem k)

theorem cell_inj {c c' : Dev nD} {k k' : Kd} (h : cell c k = cell c' k') : c = c' ∧ k = k' :=
  ⟨congrArg (fun g : GSem nD τ sig => g.1.1) h, ksem_inj (congrArg Prod.snd h)⟩

/-- Which of them a semaphore is. -/
def kindOf (s : SemLoc sig) : Option Kd := allKd.find? fun k => decide (ksem k = s)
theorem kindOf_ksem (k : Kd) : kindOf (ksem k) = some k := by
  have h : ∀ a ∈ allKd, kindOf (ksem a) = some a := by decide
  exact h k (mem_allKd k)

/-! ## The schedule -/

/-- The units a transfer of 512 × 2048 numbers credits. -/
def N : ℕ := (sB .R).view.dmaCredit
theorem N_pos : 0 < N := View.dmaCredit_pos _ (by decide)

/-- A buffer of device `c` held at the values `v`. -/
abbrev holds {sp : Space} {s : Shape} (c : Dev nD) (M : Memref sig .tc sp s .f32) (v : Vec F s .f32) : sProp 𝕄 :=
  owns (c : Thread nD τ) M fullShare v

/-- What sender number `k` must know of device `e`'s slot: that it has been released for that send, and that the arrival cell is at
    its round. -/
def fact (w : Way) (e : Dev nD) (k : ℕ) : sProp 𝕄 :=
  iprop(released ES (e, w, par k) (k / 2 + 1) ∗ reached ER (cell e (.rcv w (par k))) (k / 2))

instance fact_persistent (w : Way) (e : Dev nD) (k : ℕ) : BI.Persistent (fact (F := F) w e k) := by unfold fact; infer_instance
instance fact_storable (w : Way) (e : Dev nD) (k : ℕ) : BI.Storable (upEmb : UEmb _ 𝕄) (fact (F := F) w e k) := by
  unfold fact; infer_instance

/-- The fact for a send implies the fact for an earlier send into the same slot. -/
theorem fact_mono (w : Way) (e : Dev nD) {j k : ℕ} (h : j ≤ k) (hp : j % 2 = k % 2) : fact (F := F) w e k ⊢ fact w e j := by
  have e1 : par j = par k := Fin.ext hp
  have h2 : j / 2 ≤ k / 2 := Nat.div_le_div_right h
  unfold fact
  rw [e1]
  exact BI.sep_mono (released_mono ES (by omega)) (reached_mono ER h2)

/-- The numbers of the two units of the barrier. -/
def wn : Way → ℕ | .R => 0 | .L => 1
def wOf : ℕ → Way | 0 => .R | _ => .L
theorem wOf_wn (w : Way) : wOf (wn w) = w := by cases w <;> rfl

def kduties : Kd → ℕ → Finset ℕ
  | .bar, r => if r = 0 then {0, 1} else ∅
  | .snd _, r => if r < 14 then {0} else ∅
  | .rcv _ _, r => if r < 7 then {0} else ∅
  | .out _, r => if r < 2 then {0} else ∅
  | .crd _, r => if r = 0 then Finset.range 12 else ∅

def kamount : Kd → ℕ
  | .bar => 1 | .snd _ => N | .rcv _ _ => N | .out _ => N | .crd _ => 1

def kpay (c : Dev nD) : Kd → ℕ → ℕ → sProp 𝕄
  | .bar, _, d => iprop(fact (wOf d) (dst (wOf d) c) 0 ∗ fact (wOf d) (dst (wOf d) c) 1)
  | .snd w, r, _ => holds c (sB w) (val m w r c)
  | .rcv w p, r, _ => holds c (slotM w p) (val m w (2 * r + p.val) (src w c))
  | .out w, r, _ => iprop(holds c (sB w) (res m w c ⟨r % 2, Nat.mod_lt _ (by decide)⟩)
      ∗ holds c (outM (quarter w ⟨r % 2, Nat.mod_lt _ (by decide)⟩)) (res m w c ⟨r % 2, Nat.mod_lt _ (by decide)⟩))
  | .crd w, _, d => iprop(fact w (dst w c) (d + 2) ∗ fact w (dst w c) (d + 1))

theorem kamount_pos (k : Kd) : 0 < kamount k := by
  cases k <;> first | exact Nat.one_pos | exact N_pos

instance kpay_storable (c : Dev nD) (k : Kd) (r d : ℕ) : BI.Storable (upEmb : UEmb _ 𝕄) (kpay m c k r d) := by
  cases k <;> (dsimp only [kpay]; infer_instance)

/-- The schedule of every cell. -/
def Rd : Rounds.Schedule (GSem nD τ sig) ℕ 𝕄 where
  duties g r := match kindOf g.2 with | some k => kduties k r | none => ∅
  unitless _ := False
  amount g _ _ := match kindOf g.2 with | some k => kamount k | none => 1
  payload g r d := match kindOf g.2 with | some k => kpay m g.1.1 k r d | none => iprop(emp)
  amount_pos g _ _ _ := by
    cases kindOf g.2 with
    | none => exact Nat.one_pos
    | some k => exact kamount_pos k

instance Rd_storable (g : GSem nD τ sig) (r d : ℕ) : BI.Storable (upEmb : UEmb _ 𝕄) ((Rd (F := F) m).payload g r d) := by
  show BI.Storable upEmb (match kindOf g.2 with | some k => kpay m g.1.1 k r d | none => iprop(emp))
  split <;> infer_instance

section Table
variable (c : Dev nD) (k : Kd) (r d : ℕ)

theorem duties_eq : (Rd (F := F) m).duties (cell c k) r = kduties k r := by
  show (match kindOf (ksem k) with | some k => kduties k r | none => ∅) = _
  rw [kindOf_ksem]
theorem amount_eq : (Rd (F := F) m).amount (cell c k) r d = kamount k := by
  show (match kindOf (ksem k) with | some k => kamount k | none => 1) = _
  rw [kindOf_ksem]
theorem payload_eq : (Rd (F := F) m).payload (cell c k) r d = kpay m c k r d := by
  show (match kindOf (ksem k) with | some k => kpay m c k r d | none => iprop(emp)) = _
  rw [kindOf_ksem]
theorem expect_eq : (Rd (F := F) m).expect (cell c k) r = (kduties k r).card * kamount k := by
  unfold Schedule.expect Schedule.amountOf
  rw [duties_eq, Finset.sum_congr rfl fun d _ => amount_eq m c k r d, Finset.sum_const, smul_eq_mul]
end Table

/-! ## Levels -/

def L (g : GSem nD τ sig) : Finset ℕ := if g.1.2 = .tc then Finset.range 14 else ∅
/-- The level of a cell at an index: arrival `k` at `2 k + 2`, credit `j` at `2 j + 3`, the barrier at 1, the rest at 0. -/
def klv : Kd → ℕ → ℕ
  | .bar, _ => 1 | .rcv _ _, k => 2 * k + 2 | .crd _, j => 2 * j + 3 | .snd _, _ => 0 | .out _, _ => 0
def lv (g : GSem nD τ sig) (u : ℕ) : ℕ := match kindOf g.2 with | some k => klv k u | none => 0

theorem L_of_ne (g : GSem nD τ sig) (h : g.1.2 ≠ .tc) : L g = ∅ := if_neg h
theorem mem_L (c : Dev nD) (s : SemLoc sig) {u : ℕ} (h : u < 14) : u ∈ L ((c : Thread nD τ), s) := by
  unfold L; rw [if_pos rfl]; exact Finset.mem_range.mpr h
theorem lv_cell (c : Dev nD) (k : Kd) (u : ℕ) : lv (cell c k) u = klv k u := by
  show (match kindOf (ksem k) with | some k => klv k u | none => 0) = _
  rw [kindOf_ksem]

/-- Everything owed in `O` is at a level above `b`. -/
def Above (b : ℕ) (O : CellTallies nD τ sig ℕ) : Prop := ∀ g u, 0 < O g u → u ∈ L g ∧ b < lv g u

theorem Above.zero (b : ℕ) : Above b 0 := fun g u h => absurd h (Nat.lt_irrefl 0)
theorem Above.add {b : ℕ} {O O' : CellTallies nD τ sig ℕ} (h : Above b O) (h' : Above b O') : Above b (O + O') := fun g u hg => by
  rw [Pi.add_apply, Finsupp.add_apply] at hg
  rcases Nat.eq_zero_or_pos (O g u) with h0 | h0
  · rw [h0, Nat.zero_add] at hg; exact h' g u hg
  · exact h g u h0
theorem Above.tally {b : ℕ} (c : Dev nD) (k : Kd) {u n : ℕ} (hu : u < 14) (hb : b < klv k u) : Above b (tallyAt (cell c k) u n) := fun g v hg => by
  rw [tallyAt_apply] at hg
  by_cases h : g = cell c k ∧ v = u
  · rw [h.1, h.2]; exact ⟨mem_L c _ hu, by rw [lv_cell]; exact hb⟩
  · rw [if_neg h] at hg; exact absurd hg (Nat.lt_irrefl 0)
theorem Above.sum {b : ℕ} {S : Finset ℕ} {f : ℕ → CellTallies nD τ sig ℕ} (h : ∀ i ∈ S, Above b (f i)) : Above b (∑ i ∈ S, f i) := by
  induction S using Finset.induction_on with
  | empty => rw [Finset.sum_empty]; exact Above.zero b
  | insert i S hi ih =>
    rw [Finset.sum_insert hi]
    exact (h i (Finset.mem_insert_self _ _)).add (ih fun j hj => h j (Finset.mem_insert_of_mem hj))
theorem Above.mono {b b' : ℕ} {O : CellTallies nD τ sig ℕ} (h : Above b O) (hb : b' ≤ b) : Above b' O := fun g u hg =>
  ⟨(h g u hg).1, lt_of_le_of_lt hb (h g u hg).2⟩

/-- A wait at or below level `b` may be made while everything owed is above it. -/
theorem mayWait_of_above {b : ℕ} {O : CellTallies nD τ sig ℕ} (h : Above b O) (c : Dev nD) (s : SemLoc sig) {u : ℕ} (hu : u < 14)
    (hb : lv ((c : Thread nD τ), s) u ≤ b) : (levAts L lv : sProp 𝕄) ⊢ MayWait (c : Thread nD τ) s u O :=
  MayOwe.of_cut (L := L) (lev := lv) b (fun p hp => by rw [Finset.mem_singleton.mp hp]; exact mem_L c s hu)
    (fun g v hg => (h g v hg).1) (fun p hp => by rw [Finset.mem_singleton.mp hp]; exact hb) (fun g v hg => (h g v hg).2)

/-! ## What a device owes -/

/-- With `n` sends started and `i` credits given, on one ring: the arrivals from send `n` on, the credits from `i` on. -/
def Os (w : Way) (c : Dev nD) (n i : ℕ) : CellTallies nD τ sig ℕ :=
  ∑ j ∈ Finset.Ico n 14, tallyAt (cell (dst w c) (.rcv w (par j))) j N + ∑ j ∈ Finset.Ico i 12, tallyAt (cell (src w c) (.crd w)) j 1

theorem Ico_head {n M : ℕ} (h : n < M) : Finset.Ico n M = insert n (Finset.Ico (n + 1) M) := by
  ext j; rw [Finset.mem_insert, Finset.mem_Ico, Finset.mem_Ico]; omega
theorem not_mem_Ico (n M : ℕ) : n ∉ Finset.Ico (n + 1) M := by rw [Finset.mem_Ico]; omega

/-- The first of the tokens numbered from `n` on, and the rest. -/
theorem bigSep_head {n M : ℕ} (h : n < M) (Φ : ℕ → sProp 𝕄) : bigSep (Finset.Ico n M) Φ = iprop(Φ n ∗ bigSep (Finset.Ico (n + 1) M) Φ) := by
  rw [Ico_head h, bigSep_insert (not_mem_Ico n M)]; rfl

theorem Os_send (w : Way) (c : Dev nD) {n : ℕ} (i : ℕ) (h : n < 14) :
    Os w c n i = Os w c (n + 1) i + tallyAt (cell (dst w c) (.rcv w (par n))) n N := by
  unfold Os; rw [Ico_head h, Finset.sum_insert (not_mem_Ico n 14)]; ac_rfl
theorem Os_sig (w : Way) (c : Dev nD) (n : ℕ) {i : ℕ} (h : i < 12) :
    Os w c n i = Os w c n (i + 1) + tallyAt (cell (src w c) (.crd w)) i 1 := by
  unfold Os; rw [Ico_head h, Finset.sum_insert (not_mem_Ico i 12)]; ac_rfl
theorem Os_done (w : Way) (c : Dev nD) : Os w c 14 12 = 0 := by
  unfold Os; rw [Finset.Ico_self, Finset.Ico_self, Finset.sum_empty, Finset.sum_empty, add_zero]
theorem Os_above (w : Way) (c : Dev nD) {b n i : ℕ} (hn : n < 14 → b < 2 * n + 2) (hi : i < 12 → b < 2 * i + 3) : Above b (Os w c n i) :=
  Above.add (Above.sum fun j hj => by
      rw [Finset.mem_Ico] at hj
      have := hn (by omega)
      exact Above.tally _ _ (by omega) (by dsimp only [klv]; omega))
    (Above.sum fun j hj => by
      rw [Finset.mem_Ico] at hj
      have := hi (by omega)
      exact Above.tally _ _ (by omega) (by dsimp only [klv]; omega))

end Cert.KernelIdeal.Ring

end
-- ==== Proof.Step.lean ====
/-
  What each piece of the body does, one lemma per piece, each for both rings and every send `k`: the resources it needs, the
  resources it leaves. A lemma reads: the needed resources, together with the continuation at the left ones, give the piece's
  weakest precondition.
-/
module

public import proofs.«01_k».proof.Proof.Sched

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The weakest precondition of a program of device `c`'s core. -/
abbrev Wp (c : Dev nD) {α : Type} (p : P (F := F) α) (Q : α → sProp 𝕄) : sProp 𝕄 :=
  wp frame (wpE (defs₀ (F := F)) 𝒱₀ (c : Thread nD τ) none) Set.univ p Q

/-! ## What everybody knows -/

/-- A slot's elements, at any contents. -/
def slotRes (s : Key) : sProp 𝕄 := slot ((slotM s.2.1 s.2.2).view.loc (s.1 : Thread nD τ)) (slotM s.2.1 s.2.2).view.set

instance slotRes_storable (s : Key) : BI.Storable (upEmb : UEmb _ 𝕄) (slotRes (F := F) s) := by unfold slotRes; infer_instance

variable (K : Dev nD × Kd → ℕ) (KS : Key → ℕ)

/-- The invariants of all cells and slots, that every cell is at least at round 0, and the levels. -/
def recs : sProp 𝕄 :=
  iprop((bigSep Finset.univ fun x : Dev nD × Kd => cellInv ER (Rd m) (K x) (cell x.1 x.2))
    ∗ (bigSep Finset.univ fun x : Dev nD × Kd => reached ER (cell x.1 x.2) 0)
    ∗ (bigSep Finset.univ fun s : Key => slotInv ES (KS s) s (slotRes s))
    ∗ levAts L lv)

instance recs_persistent : BI.Persistent (recs m K KS) := by unfold recs; infer_instance

theorem recs_cell (c : Dev nD) (k : Kd) : recs m K KS ⊢ cellInv ER (Rd m) (K (c, k)) (cell c k) := by
  have h : (bigSep Finset.univ fun x : Dev nD × Kd => (cellInv ER (Rd m) (K x) (cell x.1 x.2) : sProp 𝕄)) ⊢ cellInv ER (Rd m) (K (c, k)) (cell c k) := bigSep_elim (Finset.mem_univ (c, k))
  unfold recs
  iintro ⟨H, -⟩
  iapply h; iexact H
theorem recs_reached (c : Dev nD) (k : Kd) : recs m K KS ⊢ reached ER (cell c k) 0 := by
  have h : (bigSep Finset.univ fun x : Dev nD × Kd => (reached ER (cell x.1 x.2) 0 : sProp 𝕄)) ⊢ reached ER (cell c k) 0 := bigSep_elim (Finset.mem_univ (c, k))
  unfold recs
  iintro ⟨-, H, -⟩
  iapply h; iexact H
theorem recs_slot (s : Key) : recs m K KS ⊢ slotInv ES (KS s) s (slotRes s) := by
  have h : (bigSep Finset.univ fun s : Key => (slotInv ES (KS s) s (slotRes s) : sProp 𝕄)) ⊢ slotInv ES (KS s) s (slotRes s) := bigSep_elim (Finset.mem_univ s)
  unfold recs
  iintro ⟨-, -, H, -⟩
  iapply h; iexact H
theorem recs_lev : recs m K KS ⊢ levAts L lv := by
  unfold recs
  iintro ⟨-, -, -, H⟩
  iexact H

/-! ## Owing, and waiting for a whole round -/

/-- A device owes `O`. -/
def ow (c : Dev nD) (O : CellTallies nD τ sig ℕ) : sProp 𝕄 := iprop(∃ W, owes (c : Thread nD τ) O W)

/-- A wait for the one payment of round `r` of a transfer's cell, at index `u`, while everything owed is above its level: the
    payment's contents, and the next round. -/
theorem wp_round {e : TpuEff nD τ sig (Elt F) Λ₀ .tc PUnit} (c : Dev nD) (k : Kd)
    (hw : ∀ Kk : PUnit → sProp 𝕄, wpE (defs₀ (F := F)) 𝒱₀ (c : Thread nD τ) none Set.univ e Kk = waitSpec (c : Thread nD τ) Set.univ (ksem k) N Kk)
    (r : ℕ) (hd : kduties k r = {0}) (ha : kamount k = N) (u : ℕ) (hu : u < 14) {b : ℕ} {O : CellTallies nD τ sig ℕ}
    (hO : Above b O) (hb : klv k u ≤ b) (Q : PUnit → sProp 𝕄) :
    iprop(recs m K KS ∗ cred (tallyAt (cell c k) u N) ∗ ow c O ∗ atPos ER (cell c k) r ∅ 0
        ∗ ((ow c O ∗ atPos ER (cell c k) (r + 1) ∅ 0 ∗ reached ER (cell c k) (r + 1) ∗ kpay m c k r 0) -∗ Q ⟨⟩))
      ⊢ Wp c (.op e .ret) Q := by
  unfold ow
  iintro ⟨#HR, Hc, ⟨%W, HO⟩, Hat, HQ⟩
  iapply (Rounds.wp_wait_rest_token 𝒱₀ ER (Rd m) (c : Thread nD τ) none (κ := K (c, k)) hw (Set.mem_univ _) u (O := O) (W := W) (R := r) (m := 0) (T := ∅)
      (by rw [expect_eq, hd, ha, Finset.card_singleton, Nat.one_mul, Nat.zero_add])) $$ [Hc HO Hat]
  · isplitr; · iapply (recs_cell m K KS c k); iexact HR
    isplitl [Hc]; · iexact Hc
    isplitl [HO]; · iexact HO
    isplitr
    · iapply (mayWait_of_above hO c (ksem k) hu (by rw [show lv ((c : Thread nD τ), ksem k) u = klv k u from lv_cell c k u]; exact hb))
      iapply (recs_lev m K KS); iexact HR
    iexact Hat
  iintro ⟨HO, Hat, Hr, Hpay⟩
  have hp : bigSep ((Rd m).duties (cell c k) r \ ∅) (fun d => (Rd m).payload (cell c k) r d) ⊢ kpay m c k r 0 :=
    Entails.of_eq (by rw [duties_eq, hd, Finset.sdiff_empty, bigSep_singleton, payload_eq])
  ihave Hpay := hp $$ Hpay
  rw [wp_ret]; imodintro
  iapply HQ
  isplitl [HO]; · iexists _; iexact HO
  isplitl [Hat]; · iexact Hat
  isplitl [Hr]; · iexact Hr
  iexact Hpay

/-! ## Loads and stores -/

/-- The staged blocks of the two arguments. -/
abbrev xPt (c : Dev nD) : sProp 𝕄 := ((c : Thread nD τ).loc cc0_stg0_0) ↦{fullShare} xst m c
abbrev wPt (c : Dev nD) : sProp 𝕄 := ((c : Thread nD τ).loc cc0_stg1_0) ↦{fullShare} wst m c

/-- A partial product is computed from the staged blocks. -/
theorem wp_part (c : Dev nD) (off : Fin 2 → Nat) (h : ∀ a, off a + S512x512.size a ≤ S4096x512.size a) (q : Fin 4)
    (Q : FVec F S512x2048 .f32 → sProp 𝕄) :
    iprop(xPt m c ∗ wPt m c ∗ ((xPt m c ∗ wPt m c) -∗ Q (mm (xRows m c off h) (wCols m c q)))) ⊢ Wp c (part off h q) Q := by
  unfold part
  simp only [wp_bind]
  iintro ⟨Hx, Hw, HQ⟩
  unfold ldX ldW
  iapply (wp_load 𝒱₀ (c : Thread nD τ) none Set.univ (m := xM) (Finset.subset_univ _)) $$ Hx; iintro Hx
  rw [wp_ret]; imodintro
  iapply (wp_load 𝒱₀ (c : Thread nD τ) none Set.univ (m := wM) (Finset.subset_univ _)) $$ Hw; iintro Hw
  rw [wp_ret]; imodintro
  rw [wp_pure]; imodintro
  have hQ : Q (mm (xRows m c off h) (wCols m c q)) ⊢ Q (mm (View.readAt (Elt F) (xM : Memref sig .tc .vmem S4096x512 .f32).view (Rect.unit (s := S4096x512) off S512x512.size h).toLoadRect (xst m c))
      (View.readAt (Elt F) (wM : Memref sig .tc .vmem S512x8192 .f32).view (Rect.unit (s := S512x8192) ![0, 2048 * q.val] S512x2048.size (inb_quarter q)).toLoadRect (wst m c))) := .rfl
  iapply hQ
  iapply HQ
  isplitl [Hx]; · iexact Hx
  iexact Hw

/-- The send buffer at any contents. -/
abbrev anyB (w : Way) (c : Dev nD) : sProp 𝕄 := iprop(∃ v, holds c (sB w) v)

theorem hz2 : (![0, 0] : Fin 2 → Nat) = fun _ => 0 := funext fun a => by fin_cases a <;> rfl

theorem sB_write (w : Way) (f : (sB w).view.ref.ty.Contents (Elt F)) (v : Vec F S512x2048 .f32) :
    (sB w).view.read (Elt F) (((sB w).access rS).write (Elt F) f v Finset.univ) = v := by
  cases w
  · show View.write (Elt F) ((Memref.whole cc0_scratch0).access rS) f v Finset.univ = v
    exact Memref.write_access_unit_zero_univ (Elt F) cc0_scratch0 hz2 _ f v
  · show View.write (Elt F) ((Memref.whole cc0_scratch1).access rS) f v Finset.univ = v
    exact Memref.write_access_unit_zero_univ (Elt F) cc0_scratch1 hz2 _ f v

theorem sB_set (w : Way) : (sB w).view.set = Finset.univ := by
  cases w
  · exact View.set_whole _
  · exact View.set_whole _

/-- A store to the send buffer. -/
theorem wp_stS (w : Way) (c : Dev nD) (v : FVec F S512x2048 .f32) (Q : PUnit → sProp 𝕄) :
    iprop(anyB w c ∗ (holds c (sB w) v -∗ Q ⟨⟩)) ⊢ Wp c (stS w v) Q := by
  unfold stS
  simp only [wp_bind]
  unfold anyB holds owns
  iintro ⟨⟨%v0, %f, %hf, HB⟩, HQ⟩
  iapply (wp_load 𝒱₀ (c : Thread nD τ) none Set.univ (m := sB w) (by rw [sB_set]; exact Finset.subset_univ _)) $$ HB; iintro HB
  rw [wp_ret]; imodintro
  iapply (wp_store 𝒱₀ (c : Thread nD τ) none Set.univ (m := sB w) (r := rS) (Mk := Finset.univ) (by rw [sB_set]; exact Finset.subset_univ _)) $$ HB; iintro HB
  rw [wp_ret]; imodintro
  iapply HQ
  iexists _
  isplitr; · ipureintro; exact sB_write w f v
  iexact HB

/-- A read of a slot. -/
theorem wp_ldR (w : Way) (c : Dev nD) (k : ℕ) (v : Vec F S512x2048 .f32) (Q : Vec F S1x512x2048 .f32 → sProp 𝕄) :
    iprop(holds c (slotM w (par k)) v
        ∗ (∀ v' : Vec F S1x512x2048 .f32, ⌜shapeCast S512x2048 v' shapeCasts_S1x512x2048_S512x2048 = v⌝ -∗ holds c (slotM w (par k)) v -∗ Q v'))
      ⊢ Wp c (ldR w k) Q := by
  unfold ldR holds owns
  iintro ⟨⟨%f, %hf, HB⟩, HQ⟩
  iapply (wp_load_rect 𝒱₀ (c : Thread nD τ) none Set.univ (m := rB w)
    (r := Rect.unit (s := S2x512x2048) ![(par k).val, 0, 0] S1x512x2048.size (inb_slot (par k)))
    (S := (slotM w (par k)).view.set) (f := f) (by unfold slotM; exact (View.set_reshape _ _).ge)) $$ [HB]
  · iexact HB
  iintro HB
  rw [wp_ret]; imodintro
  iapply HQ $$ [] [HB]
  · ipureintro; rw [← hf]; rfl
  iexists f
  isplitr; · ipureintro; exact hf
  iexact HB

end Cert.KernelIdeal.Ring

end
-- ==== Proof.Moves.lean ====
/-
  The pieces that move data and credits: the waits of a step, the credit given back after a read, the credit waited for, the
  send; and the copy of a finished quarter to the result.

  One ring's state on a device is `Core` — what is left of its tokens and credits, counted by sends started, arrivals read and
  credits waited for — with the send cell either at rest (`Empty`) or holding a send in flight (`Fly`).
-/
module

public import proofs.«01_k».proof.Proof.Step

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (K : Dev nD × Kd → ℕ) (KS : Key → ℕ)

/-! ## One ring's state on a device -/

/-- The tokens of the sends from `n` on: the duties of the send cell and of the downstream arrival cell, the write of the slot. -/
def Toks (w : Way) (c : Dev nD) (n : ℕ) : sProp 𝕄 :=
  bigSep (Finset.Ico n 14) fun j => iprop(dutyTok ER (cell c (.snd w)) j 0 ∗ dutyTok ER (cell (dst w c) (.rcv w (par j))) (j / 2) 0
    ∗ writeTok ES (dst w c, w, par j) (j / 2 + 1))

/-- With `n` arrivals waited for: the position on both arrival cells, the credit tokens of the arrivals to come. -/
def Arr (w : Way) (c : Dev nD) (n : ℕ) : sProp 𝕄 :=
  iprop(atPos ER (cell c (.rcv w 0)) ((n + 1) / 2) ∅ 0 ∗ atPos ER (cell c (.rcv w 1)) (n / 2) ∅ 0
    ∗ bigSep (Finset.Ico n 14) fun j => cred (tallyAt (cell c (.rcv w (par j))) j N))

/-- With `i` arrivals given back: the credits still to give, the count of releases of both slots, what the next credit can say. -/
def Rel (w : Way) (c : Dev nD) (i : ℕ) : sProp 𝕄 :=
  iprop((bigSep (Finset.Ico i 12) fun j => dutyTok ER (cell (src w c) (.crd w)) 0 j)
    ∗ readerAt ES (c, w, 0) ((i + 1) / 2 + 1) ∗ readerAt ES (c, w, 1) (i / 2 + 1) ∗ fact w c i ∗ fact w c (i + 1))

/-- With `j` credits waited for: at least `j` units have been received, each with its facts. -/
def Crd (w : Way) (c : Dev nD) (j : ℕ) : sProp 𝕄 :=
  iprop(∃ T : Finset ℕ, ⌜T ⊆ Finset.range 12 ∧ j ≤ T.card⌝ ∗ atPos ER (cell c (.crd w)) 0 T j
    ∗ (bigSep T fun d => kpay m c (.crd w) 0 d) ∗ bigSep (Finset.Ico j 12) fun i => cred (tallyAt (cell c (.crd w)) i 1))

/-- The slots of the last two arrivals, which are not given back. -/
def Kept (w : Way) (c : Dev nD) (n : ℕ) : sProp 𝕄 := bigSep (Finset.Ico 12 n) fun j => slotRes (c, w, par j)

/-- `n` sends started, `k` arrivals read, `j` credits waited for. -/
def Core (w : Way) (c : Dev nD) (n k j : ℕ) : sProp 𝕄 :=
  iprop(Toks w c n ∗ Arr w c k ∗ Rel w c (min 12 k) ∗ Crd m w c j ∗ Kept w c k)

/-- Send `k` is in flight; all arrivals before `k` have been read. -/
def Fly (w : Way) (c : Dev nD) (k : ℕ) : sProp 𝕄 :=
  iprop(atPos ER (cell c (.snd w)) k ∅ 0 ∗ cred (tallyAt (cell c (.snd w)) 0 N) ∗ Core m w c (k + 1) k (k - 1))

/-- No send is in flight; all sends and arrivals before `k` are done. -/
def Empty (w : Way) (c : Dev nD) (k : ℕ) : sProp 𝕄 :=
  iprop(atPos ER (cell c (.snd w)) k ∅ 0 ∗ reached ER (cell c (.snd w)) k ∗ Core m w c k k (k - 2))

/-! ## Waiting for an arrival -/

theorem dmaCredit_sB (w : Way) : (sB w).view.dmaCredit = N := by cases w <;> rfl
theorem dmaCredit_slotM (w : Way) (p : Fin 2) : (slotM w p).view.dmaCredit = N := by cases w <;> rfl
theorem dmaCredit_outM (q : Fin 4) : (outM q).view.dmaCredit = N := rfl

theorem two_mul_div (k : ℕ) : 2 * (k / 2) + (par k).val = k := Nat.div_add_mod k 2

/-- One arrival cell's position moves, the other's stays. -/
theorem Arr_take (w : Way) (c : Dev nD) {k : ℕ} (hk : k < 14) :
    (Arr w c k : sProp 𝕄) ⊢ iprop(atPos ER (cell c (.rcv w (par k))) (k / 2) ∅ 0 ∗ cred (tallyAt (cell c (.rcv w (par k))) k N)
      ∗ (atPos ER (cell c (.rcv w (par k))) (k / 2 + 1) ∅ 0 -∗ Arr w c (k + 1))) := by
  unfold Arr
  rw [bigSep_head hk]
  rcases Nat.mod_two_eq_zero_or_one k with h | h
  · have e : par k = 0 := Fin.ext h
    rw [e, show (k + 1) / 2 = k / 2 by omega, show (k + 1 + 1) / 2 = k / 2 + 1 by omega]
    iintro ⟨H0, H1, Hc, Hcs⟩
    isplitl [H0]; · iexact H0
    isplitl [Hc]; · iexact Hc
    iintro H0
    isplitl [H0]; · iexact H0
    isplitl [H1]; · iexact H1
    iexact Hcs
  · have e : par k = 1 := Fin.ext h
    rw [e, show (k + 1 + 1) / 2 = (k + 1) / 2 by omega, show (k + 1) / 2 = k / 2 + 1 by omega]
    iintro ⟨H0, H1, Hc, Hcs⟩
    isplitl [H1]; · iexact H1
    isplitl [Hc]; · iexact Hc
    iintro H1
    isplitl [H0]; · iexact H0
    isplitl [H1]; · iexact H1
    iexact Hcs

theorem kpay_snd (w : Way) (c : Dev nD) (k : ℕ) : kpay m c (.snd w) k 0 = holds c (sB w) (val m w k c) := rfl

/-- A device waits until its send `k` has been read out and arrival `k` is there. -/
theorem wp_waitP (w : Way) (c : Dev nD) {k : ℕ} (hk : k < 14) {O : CellTallies nD τ sig ℕ} (hO : Above (2 * k + 2) O) (Q : PUnit → sProp 𝕄) :
    iprop(recs m K KS ∗ ow c O ∗ atPos ER (cell c (.snd w)) k ∅ 0 ∗ cred (tallyAt (cell c (.snd w)) 0 N) ∗ Arr w c k
        ∗ ((ow c O ∗ atPos ER (cell c (.snd w)) (k + 1) ∅ 0 ∗ reached ER (cell c (.snd w)) (k + 1) ∗ holds c (sB w) (val m w k c)
            ∗ Arr w c (k + 1) ∗ reached ER (cell c (.rcv w (par k))) (k / 2 + 1) ∗ holds c (slotM w (par k)) (val m w k (src w c))) -∗ Q ⟨⟩))
      ⊢ Wp c (waitP w k) Q := by
  unfold waitP
  simp only [wp_bind]
  iintro ⟨#HR, HO, HatS, HcS, HA, HQ⟩
  iapply (wp_round m K KS c (.snd w) (fun Kk => (wpE_waitDma2_eq 𝒱₀ (c : Thread nD τ) none Set.univ Kk).trans (by rw [dmaCredit_sB])) k (if_pos hk) rfl 0 (by decide) hO (Nat.zero_le _))
  isplitr; · iexact HR
  isplitl [HcS]; · iexact HcS
  isplitl [HO]; · iexact HO
  isplitl [HatS]; · iexact HatS
  iintro ⟨HO, HatS, HrS, HB⟩
  ihave HA' := (Arr_take w c hk) $$ HA
  icases HA' with ⟨HatV, HcV, Hback⟩
  iapply (wp_round m K KS c (.rcv w (par k)) (fun Kk => (wpE_waitDma2_eq 𝒱₀ (c : Thread nD τ) none Set.univ Kk).trans (by rw [dmaCredit_slotM])) (k / 2) (if_pos (by omega)) rfl k hk hO (le_refl _))
  isplitr; · iexact HR
  isplitl [HcV]; · iexact HcV
  isplitl [HO]; · iexact HO
  isplitl [HatV]; · iexact HatV
  iintro ⟨HO, HatV, HrV, HS⟩
  iapply HQ
  isplitl [HO]; · iexact HO
  isplitl [HatS]; · iexact HatS
  isplitl [HrS]; · iexact HrS
  isplitl [HB]; · iapply (Entails.of_eq (kpay_snd m w c k)); iexact HB
  isplitl [HatV Hback]; · iapply Hback; iexact HatV
  isplitl [HrV]; · iexact HrV
  have h : kpay m c (.rcv w (par k)) (k / 2) 0 ⊢ holds c (slotM w (par k)) (val m w k (src w c)) := Entails.of_eq (by
    show holds c (slotM w (par k)) (val m w (2 * (k / 2) + (par k).val) (src w c)) = _
    rw [two_mul_div])
  iapply h; iexact HS

/-! ## Giving a slot back -/

theorem slot_nonempty (w : Way) (p : Fin 2) : (slotM w p).view.set.Nonempty := View.set_nonempty (by decide)

theorem holds_slot (w : Way) (c : Dev nD) (p : Fin 2) (v : Vec F S512x2048 .f32) : (holds c (slotM w p) v : sProp 𝕄) ⊢ slotRes (c, w, p) := by
  unfold holds owns slotRes slot
  iintro ⟨%f, -, H⟩
  iexists f; iexact H

/-- A release of the slot of parity `k`, `k` releases of the two slots being done. -/
theorem Rel_release (w : Way) (c : Dev nD) {i : ℕ} (hi : i < 12) (v : Vec F S512x2048 .f32) :
    iprop(recs m K KS ∗ Rel w c i ∗ holds c (slotM w (par i)) v ∗ reached ER (cell c (.rcv w (par i))) (i / 2 + 1))
      ⊢ |={Set.univ}=> iprop(dutyTok ER (cell (src w c) (.crd w)) 0 i ∗ fact w c (i + 2) ∗ fact w c (i + 1) ∗ Rel w c (i + 1)) := by
  have rel : ∀ n : ℕ, iprop(recs m K KS ∗ readerAt ES (c, w, par i) n ∗ holds c (slotM w (par i)) v)
      ⊢ (|={Set.univ}=> (readerAt ES (c, w, par i) (n + 1) ∗ released ES (c, w, par i) (n + 1)) : sProp 𝕄) := fun n => by
    iintro ⟨#HR, Hr, HS⟩
    iapply (slot_release ES (Set.mem_univ (KS (c, w, par i))) (S := slotRes (c, w, par i)) (slot_slot_false (slot_nonempty w (par i))) n)
    isplitr; · iapply (recs_slot m K KS (c, w, par i)); iexact HR
    isplitl [Hr]; · iexact Hr
    iapply (holds_slot w c (par i) v); iexact HS
  have hf : iprop(released ES (c, w, par i) (i / 2 + 1 + 1) ∗ reached ER (cell c (.rcv w (par i))) (i / 2 + 1)) ⊢ (fact w c (i + 2) : sProp 𝕄) := Entails.of_eq (by
    unfold fact
    rw [show par (i + 2) = par i from Fin.ext (by show (i + 2) % 2 = i % 2; omega), show (i + 2) / 2 = i / 2 + 1 by omega])
  unfold Rel
  rw [bigSep_head hi]
  rcases Nat.mod_two_eq_zero_or_one i with h | h
  · have e : par i = 0 := Fin.ext h
    rw [e] at rel hf
    rw [e, show (i + 1) / 2 = i / 2 by omega, show (i + 1 + 1) / 2 = i / 2 + 1 by omega]
    iintro ⟨#HR, ⟨⟨Ht, Hts⟩, H0, H1, -, #Hf⟩, HS, #Hr⟩
    imod (rel _) $$ [H0 HS] with ⟨H0, #Hl⟩
    · isplitr; · iexact HR
      isplitl [H0]; · iexact H0
      iexact HS
    ihave #Hf2 := hf $$ [Hl Hr]
    · isplitr; · iexact Hl
      iexact Hr
    imodintro
    isplitl [Ht]; · iexact Ht
    isplitr; · iexact Hf2
    isplitr; · iexact Hf
    isplitl [Hts]; · iexact Hts
    isplitl [H0]; · iexact H0
    isplitl [H1]; · iexact H1
    isplitr; · iexact Hf
    iexact Hf2
  · have e : par i = 1 := Fin.ext h
    rw [e] at rel hf
    rw [e, show (i + 1 + 1) / 2 = (i + 1) / 2 by omega]
    rw [show (i + 1) / 2 = i / 2 + 1 by omega]
    iintro ⟨#HR, ⟨⟨Ht, Hts⟩, H0, H1, -, #Hf⟩, HS, #Hr⟩
    imod (rel _) $$ [H1 HS] with ⟨H1, #Hl⟩
    · isplitr; · iexact HR
      isplitl [H1]; · iexact H1
      iexact HS
    ihave #Hf2 := hf $$ [Hl Hr]
    · isplitr; · iexact Hl
      iexact Hr
    imodintro
    isplitl [Ht]; · iexact Ht
    isplitr; · iexact Hf2
    isplitr; · iexact Hf
    isplitl [Hts]; · iexact Hts
    isplitl [H0]; · iexact H0
    isplitl [H1]; · iexact H1
    isplitr; · iexact Hf
    iexact Hf2

/-- After reading arrival `k` a device gives its slot back with a credit; those of the last two arrivals it keeps. -/
theorem wp_giveback (w : Way) (c : Dev nD) (k n : ℕ) (b : Bool) (hb : b = decide (k < 12)) (v : Vec F S512x2048 .f32)
    (X : CellTallies nD τ sig ℕ) (Q : PUnit → sProp 𝕄) :
    iprop(recs m K KS ∗ ow c (Os w c n (min 12 k) + X) ∗ Rel w c (min 12 k) ∗ Kept w c k ∗ holds c (slotM w (par k)) v
        ∗ reached ER (cell c (.rcv w (par k))) (k / 2 + 1)
        ∗ ((ow c (Os w c n (min 12 (k + 1)) + X) ∗ Rel w c (min 12 (k + 1)) ∗ Kept w c (k + 1)) -∗ Q ⟨⟩))
      ⊢ Wp c (cond b (sigP w c) (pure ⟨⟩)) Q := by
  subst hb
  by_cases hk : k < 12
  · rw [decide_eq_true hk, cond_true]
    unfold sigP
    simp only [semSignalWord]
    rw [Nat.min_eq_right (Nat.le_of_lt hk), Nat.min_eq_right (show k + 1 ≤ 12 from hk)]
    have hK : ∀ j ≤ 12, (Kept (F := F) w c j : sProp 𝕄) = iprop(emp) := fun j hj => by
      unfold Kept; rw [Finset.Ico_eq_empty (by omega), bigSep_empty]; rfl
    rw [hK k (Nat.le_of_lt hk), hK (k + 1) hk]
    iintro ⟨#HR, HO, HRel, -, HS, Hr, HQ⟩
    iapply (fupd_wp frame (wpE (defs₀ (F := F)) 𝒱₀ (c : Thread nD τ) none) Set.univ _ Q)
    imod (Rel_release m K KS w c hk v) $$ [HRel HS Hr] with ⟨Ht, Hf2, Hf1, HRel⟩
    · isplitr; · iexact HR
      isplitl [HRel]; · iexact HRel
      isplitl [HS]; · iexact HS
      iexact Hr
    imodintro
    unfold ow
    icases HO with ⟨%W, HO⟩
    have hO : Os w c n k + X = Os w c n (k + 1) + X + tallyAt (cell (src w c) (.crd w)) k 1 := by
      rw [Os_sig w c n hk]; exact add_right_comm _ _ _
    iapply (Rounds.wp_signal 𝒱₀ ER (Rd m) (c : Thread nD τ) none (dst := ((src w c : Dev nD) : Thread nD τ)) (κ := K (src w c, .crd w)) (r := 0) (d := k)
      (by rw [duties_eq m (src w c) (.crd w)]; exact Finset.mem_range.mpr hk) ((amount_eq m (src w c) (.crd w) 0 k).trans (by show 1 = (1#32 : BitVec 32).toInt.toNat; decide)) k (Os w c n (k + 1) + X) hO) $$ [HO Ht Hf2 Hf1]
    · isplitr; · iapply (recs_cell m K KS (src w c) (.crd w)); iexact HR
      isplitl [HO]; · iexact HO
      isplitl [Ht]; · iexact Ht
      isplitl [Hf2 Hf1]
      · have hp : iprop(fact w c (k + 2) ∗ fact w c (k + 1)) ⊢ (Rd (F := F) m).payload (cell (src w c) (.crd w)) 0 k := Entails.of_eq (by
          rw [payload_eq]; show _ = iprop(fact w (dst w (src w c)) (k + 2) ∗ fact w (dst w (src w c)) (k + 1)); rw [dst_src])
        iapply hp
        isplitl [Hf2]; · iexact Hf2
        iexact Hf1
      iapply (recs_reached m K KS (src w c) (.crd w)); iexact HR
    iintro HO
    rw [wp_ret]; imodintro
    iapply HQ
    isplitl [HO]; · iexists W; iexact HO
    isplitl [HRel]; · iexact HRel
    iempintro
  · rw [decide_eq_false hk, cond_false]
    show _ ⊢ Wp c (.ret ⟨⟩) Q
    unfold Wp
    rw [wp_ret]
    rw [Nat.min_eq_left (by omega), Nat.min_eq_left (by omega)]
    have hK : (Kept (F := F) w c (k + 1) : sProp 𝕄) = iprop(slotRes (c, w, par k) ∗ Kept w c k) := by
      unfold Kept
      rw [show Finset.Ico 12 (k + 1) = insert k (Finset.Ico 12 k) from by ext j; rw [Finset.mem_insert, Finset.mem_Ico, Finset.mem_Ico]; omega,
        bigSep_insert (by rw [Finset.mem_Ico]; omega)]; rfl
    rw [hK]
    iintro ⟨#HR, HO, HRel, HKept, HS, -, HQ⟩
    imodintro
    iapply HQ
    isplitl [HO]; · iexact HO
    isplitl [HRel]; · iexact HRel
    isplitl [HS]; · iapply (holds_slot w c (par k) v); iexact HS
    iexact HKept

/-! ## Waiting for a credit -/

/-- Some received unit numbered `j` or more says that the slot is free for send `j + 2`. -/
theorem credit_fact (w : Way) (c : Dev nD) {j : ℕ} {T : Finset ℕ} (h : T ⊆ Finset.range 12) (hj : j + 1 ≤ T.card) :
    (bigSep T fun d => kpay m c (.crd w) 0 d) ⊢ fact w (dst w c) (j + 2) := by
  obtain ⟨i, hi, hij⟩ : ∃ i ∈ T, j ≤ i := by
    by_contra hn
    have : T ⊆ Finset.range j := fun i hi => Finset.mem_range.mpr (Nat.lt_of_not_le fun h => hn ⟨i, hi, h⟩)
    have := Finset.card_le_card this
    rw [Finset.card_range] at this
    omega
  refine (bigSep_elim hi).trans ?_
  show iprop(fact w (dst w c) (i + 2) ∗ fact w (dst w c) (i + 1)) ⊢ _
  rcases Nat.mod_two_eq_zero_or_one (i - j) with h | h
  · iintro ⟨H, -⟩
    iapply (fact_mono w (dst w c) (j := j + 2) (k := i + 2) (by omega) (by omega)); iexact H
  · iintro ⟨-, H⟩
    iapply (fact_mono w (dst w c) (j := j + 2) (k := i + 1) (by omega) (by omega)); iexact H

instance kpay_crd_persistent (w : Way) (c : Dev nD) (r d : ℕ) : BI.Persistent (kpay m c (.crd w) r d) := by
  dsimp only [kpay]; infer_instance

/-- A device waits for credit `j`, and learns that the slot is free for send `j + 2`. -/
theorem wp_crdP (w : Way) (c : Dev nD) {j : ℕ} (hj : j < 12) {O : CellTallies nD τ sig ℕ} (hO : Above (2 * j + 3) O) (Q : PUnit → sProp 𝕄) :
    iprop(recs m K KS ∗ ow c O ∗ Crd m w c j ∗ ((ow c O ∗ Crd m w c (j + 1) ∗ fact w (dst w c) (j + 2)) -∗ Q ⟨⟩)) ⊢ Wp c (crdP w) Q := by
  unfold crdP
  simp only [semWaitWord]
  unfold ow Crd
  rw [bigSep_head hj]
  iintro ⟨#HR, ⟨%W, HO⟩, ⟨%T, %hT, Hat, #Hpay, Hc, Hcs⟩, HQ⟩
  iapply (Rounds.wp_wait 𝒱₀ ER (Rd m) (c : Thread nD τ) none (κ := K (c, .crd w)) (wpE_semWait_eq 𝒱₀ (c : Thread nD τ) none Set.univ) (Set.mem_univ _)
    (cr := Finsupp.single j 1) (O := O) (W := W) {(ksem (.crd w), j)} (R := 0) (m := j) (T := T) (Util.total_single _ _) (image_single_subset _ _ _)) $$ [Hc HO Hat]
  · isplitr; · iapply (recs_cell m K KS c (.crd w)); iexact HR
    isplitl [Hc]; · iexact Hc
    isplitl [HO]; · iexact HO
    isplitr
    · iapply (mayWait_of_above hO c (ksem (.crd w)) (u := j) (by omega) (by rw [show lv ((c : Thread nD τ), ksem (.crd w)) j = klv (.crd w) j from lv_cell c _ j]; exact le_refl _))
      iapply (recs_lev m K KS); iexact HR
    iexact Hat
  iintro %S
  iintro ⟨%hS, HO, Hat, Hp⟩
  have hd : (Rd (F := F) m).duties (cell c (.crd w)) 0 = Finset.range 12 := duties_eq m c (.crd w) 0
  have hS1 : S ⊆ Finset.range 12 := hd ▸ hS.2.1
  have hcard : j + 1 ≤ S.card := by
    have h1 : j + 1 + ((Rd (F := F) m).duties (cell c (.crd w)) 0 \ S).card ≤ (Rd (F := F) m).expect (cell c (.crd w)) 0 := hS.2.2
    rw [expect_eq, hd, Finset.card_sdiff_of_subset hS1] at h1
    have h2 := Finset.card_le_card hS1
    rw [Finset.card_range] at h1 h2
    have h3 : (kduties (.crd w) 0).card * kamount (.crd w) = 12 := by
      show (Finset.range 12).card * 1 = 12; rw [Finset.card_range]
    omega
  have hall : iprop((bigSep T fun d => kpay m c (.crd w) 0 d) ∗ bigSep (S \ T) (fun d => (Rd m).payload (cell c (.crd w)) 0 d))
      ⊢ bigSep S fun d => kpay m c (.crd w) 0 d := by
    rw [show (bigSep (S \ T) (fun d => (Rd (F := F) m).payload (cell c (.crd w)) 0 d)) = bigSep (S \ T) (fun d => kpay m c (.crd w) 0 d) from
      bigSep_congr fun d _ => payload_eq m c (.crd w) 0 d]
    have h := bigSep_sep_union (Φ := fun d => kpay m c (.crd w) 0 d) T (S \ T)
    rwa [Finset.union_sdiff_of_subset hS.1] at h
  ihave #HallS := hall $$ [Hp]
  · isplitr; · iexact Hpay
    iexact Hp
  ihave #Hf := (credit_fact m w c hS1 hcard) $$ HallS
  rw [wp_ret]; imodintro
  iapply HQ
  isplitl [HO]; · iexists _; iexact HO
  isplitl [Hat Hcs]
  · iexists S
    isplitr; · ipureintro; exact ⟨hS1, hcard⟩
    isplitl [Hat]; · iexact Hat
    isplitr; · iexact HallS
    iexact Hcs
  iexact Hf

/-! ## Sending -/

/-- A device starts send `k`: the send buffer holds the value, the downstream slot is known to be free. -/
theorem wp_sendP (w : Way) (c : Dev nD) {k : ℕ} (hk : k < 14) (i : ℕ) (X : CellTallies nD τ sig ℕ) (Q : PUnit → sProp 𝕄) :
    iprop(recs m K KS ∗ ow c (Os w c k i + X) ∗ fact w (dst w c) k ∗ Toks w c k ∗ reached ER (cell c (.snd w)) k ∗ holds c (sB w) (val m w k c)
        ∗ ((ow c (Os w c (k + 1) i + X) ∗ Toks w c (k + 1) ∗ cred (tallyAt (cell c (.snd w)) 0 N)) -∗ Q ⟨⟩))
      ⊢ Wp c (sendP w c k) Q := by
  unfold sendP ow fact Toks
  rw [bigSep_head hk]
  iintro ⟨#HR, ⟨%W, HO⟩, ⟨#Hrel, #Hrc⟩, ⟨⟨HtS, HtV, Hwt⟩, Hts⟩, HrS, HB, HQ⟩
  iapply (fupd_wp frame (wpE (defs₀ (F := F)) 𝒱₀ (c : Thread nD τ) none) Set.univ _ Q)
  imod (slot_take ES (Set.mem_univ (KS (dst w c, w, par k))) (S := slotRes (dst w c, w, par k)) (k / 2 + 1)) $$ [Hwt] with HS
  · isplitr; · iapply (recs_slot m K KS (dst w c, w, par k)); iexact HR
    isplitr; · iexact Hrel
    iexact Hwt
  imodintro
  unfold holds owns slotRes slot
  icases HS with ⟨%fd, HS⟩
  icases HB with ⟨%fs, %hfs, HB⟩
  have hO : Os w c k i + X = Os w c (k + 1) i + X + tallyAt (cell (dst w c) (.rcv w (par k))) k N := by
    rw [Os_send w c i hk]; exact add_right_comm _ _ _
  iapply (Rounds.wp_send_pointsTo 𝒱₀ ER (Rd m) (c : Thread nD τ) none (c' := ((dst w c : Dev nD) : Thread nD τ)) (κ₁ := K (c, .snd w)) (κ₂ := K (dst w c, .rcv w (par k)))
    (src := sB w) (dst := slotM w (par k)) (sS := .dma (sndS w).sem) (sem := .dma (rcvSem w (par k)))
    (r₁ := k) (r₂ := k / 2) (d₁ := 0) (d₂ := 0) (fs := fs) (fd := fd)
    (by rw [duties_eq m c (.snd w)]; show 0 ∈ (if k < 14 then ({0} : Finset ℕ) else ∅); rw [if_pos hk]; exact Finset.mem_singleton_self _)
    (by rw [duties_eq m (dst w c) (.rcv w (par k))]; show 0 ∈ (if k / 2 < 7 then ({0} : Finset ℕ) else ∅); rw [if_pos (by omega)]; exact Finset.mem_singleton_self _)
    k 0 N (dmaCredit_slotM w (par k)) (amount_eq m c (.snd w) k 0) (amount_eq m (dst w c) (.rcv w (par k)) (k / 2) 0)
    (Os w c (k + 1) i + X) hO (W := W)
    (by
      rw [payload_eq m c (.snd w)]
      show _ ⊢ holds c (sB w) (val m w k c)
      unfold holds owns
      iintro H; iexists fs
      isplitr; · ipureintro; exact hfs
      iexact H)
    (by
      rw [payload_eq m (dst w c) (.rcv w (par k))]
      show _ ⊢ holds (dst w c) (slotM w (par k)) (val m w (2 * (k / 2) + (par k).val) (src w (dst w c)))
      rw [two_mul_div, src_dst, hfs]
      unfold holds owns
      iintro H; iexists ((slotM w (par k)).view.write (Elt F) fd (val m w k c) Finset.univ)
      isplitr; · ipureintro; exact View.read_write_univ _ _
      iexact H)) $$ [HO HtS HtV HrS HB HS]
  · isplitr; · iapply (recs_cell m K KS c (.snd w)); iexact HR
    isplitr; · iapply (recs_cell m K KS (dst w c) (.rcv w (par k))); iexact HR
    isplitl [HB]; · iexact HB
    isplitl [HS]; · iexact HS
    isplitl [HO]; · iexact HO
    isplitl [HtS]; · iexact HtS
    isplitl [HrS]; · iexact HrS
    isplitl [HtV]; · iexact HtV
    iexact Hrc
  iintro ⟨HcS, HO⟩
  rw [wp_ret]; imodintro
  iapply HQ
  isplitl [HO]; · iexists W; iexact HO
  isplitl [Hts]; · iexact Hts
  iexact HcS

/-! ## The result -/

/-- The copy cell is at rest, `j` copies being done. -/
def Outs (w : Way) (c : Dev nD) (j : ℕ) : sProp 𝕄 := iprop(atPos ER (cell c (.out w)) j ∅ 0 ∗ reached ER (cell c (.out w)) j)
/-- What a copy needs: its duty and a quarter of the result. -/
def OutPre (w : Way) (c : Dev nD) (jq : Fin 2) : sProp 𝕄 := iprop(dutyTok ER (cell c (.out w)) jq.val 0 ∗ ∃ v, holds c (outM (quarter w jq)) v)

theorem kpay_out (w : Way) (c : Dev nD) (jq : Fin 2) :
    kpay m c (.out w) jq.val 0 = iprop(holds c (sB w) (res m w c jq) ∗ holds c (outM (quarter w jq)) (res m w c jq)) := by
  have e : (⟨jq.val % 2, Nat.mod_lt _ (by decide)⟩ : Fin 2) = jq := Fin.ext (Nat.mod_eq_of_lt jq.isLt)
  show iprop(holds c (sB w) (res m w c ⟨jq.val % 2, _⟩) ∗ holds c (outM (quarter w ⟨jq.val % 2, _⟩)) (res m w c ⟨jq.val % 2, _⟩)) = _
  rw [e]

/-- The copy of a finished quarter is started. -/
theorem wp_copyP (w : Way) (c : Dev nD) (jq : Fin 2) (Q : PUnit → sProp 𝕄) :
    iprop(recs m K KS ∗ OutPre w c jq ∗ reached ER (cell c (.out w)) jq.val ∗ holds c (sB w) (res m w c jq)
        ∗ (cred (tallyAt (cell c (.out w)) 0 N) -∗ Q ⟨⟩))
      ⊢ Wp c (Prog.lift (.enqueueDma (sB w) (.here (outM (quarter w jq))) (.dma (outS w).sem) (sB_whole w).wordExact (View.wordExact_bits rfl) ⟨Or.inl rfl, trivial⟩)) Q := by
  unfold OutPre holds owns
  iintro ⟨#HR, ⟨Ht, %v, %fd, -, HO⟩, Hr, ⟨%fs, %hfs, HB⟩, HQ⟩
  iapply (Rounds.wp_copy_pointsTo 𝒱₀ ER (Rd m) (c : Thread nD τ) none (src := sB w) (dst := outM (quarter w jq)) (sem := .dma (outS w).sem) (κ := K (c, .out w)) (r := jq.val) (d := 0) (fs := fs) (fd := fd)
    (by rw [duties_eq m c (.out w)]; show 0 ∈ (if jq.val < 2 then ({0} : Finset ℕ) else ∅); rw [if_pos jq.isLt]; exact Finset.mem_singleton_self _)
    0 N (dmaCredit_outM (quarter w jq)) (amount_eq m c (.out w) jq.val 0)
    (by
      rw [payload_eq m c (.out w), kpay_out, hfs]
      unfold holds owns
      iintro ⟨H, HB⟩
      isplitl [HB]
      · iexists fs
        isplitr; · ipureintro; exact hfs
        iexact HB
      · iexists ((outM (quarter w jq)).view.write (Elt F) fd (res m w c jq) Finset.univ)
        isplitr; · ipureintro; exact View.read_write_univ _ _
        iexact H)) $$ [Ht HO Hr HB]
  · isplitr; · iapply (recs_cell m K KS c (.out w)); iexact HR
    isplitl [HB]; · iexact HB
    isplitl [HO]; · iexact HO
    isplitl [Ht]; · iexact Ht
    iexact Hr
  iintro Hc
  rw [wp_ret]; imodintro
  iapply HQ
  iexact Hc

/-- A device waits until the copy of a quarter is done. -/
theorem wp_waitO (w : Way) (c : Dev nD) (jq : Fin 2) {O : CellTallies nD τ sig ℕ} (hO : Above 0 O) (Q : PUnit → sProp 𝕄) :
    iprop(recs m K KS ∗ ow c O ∗ cred (tallyAt (cell c (.out w)) 0 N) ∗ atPos ER (cell c (.out w)) jq.val ∅ 0
        ∗ ((ow c O ∗ Outs w c (jq.val + 1) ∗ anyB w c ∗ holds c (outM (quarter w jq)) (res m w c jq)) -∗ Q ⟨⟩))
      ⊢ Wp c (waitO w jq) Q := by
  unfold waitO
  iintro ⟨#HR, HO, Hc, Hat, HQ⟩
  iapply (wp_round m K KS c (.out w) (fun Kk => (wpE_waitDma2_eq 𝒱₀ (c : Thread nD τ) none Set.univ Kk).trans (by rw [dmaCredit_outM])) jq.val (if_pos jq.isLt) rfl 0 (by decide) hO (le_refl _))
  isplitr; · iexact HR
  isplitl [Hc]; · iexact Hc
  isplitl [HO]; · iexact HO
  isplitl [Hat]; · iexact Hat
  rw [kpay_out]
  iintro ⟨HO, Hat, Hr, HB, Hq⟩
  iapply HQ
  unfold Outs
  isplitl [HO]; · iexact HO
  isplitl [Hat Hr]
  · isplitl [Hat]; · iexact Hat
    iexact Hr
  isplitl [HB]; · iexists _; iexact HB
  iexact Hq

end Cert.KernelIdeal.Ring

end
-- ==== Proof.Body.lean ====
/-
  The two passes of the body, from the pieces: one step of a ring, one step of both, the steps of a pass by induction, the end of
  a pass.
-/
module

public import proofs.«01_k».proof.Proof.Moves

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (K : Dev nD × Kd → ℕ) (KS : Key → ℕ)

/-! ## Reading an arrival -/

/-- Arrival `k` is there and has been read; its slot is still held. -/
def Mid (w : Way) (c : Dev nD) (k : ℕ) : sProp 𝕄 :=
  iprop(anyB w c ∗ atPos ER (cell c (.snd w)) (k + 1) ∅ 0 ∗ reached ER (cell c (.snd w)) (k + 1)
    ∗ Toks w c (k + 1) ∗ Arr w c (k + 1) ∗ Rel w c (min 12 k) ∗ Crd m w c (k - 1) ∗ Kept w c k
    ∗ reached ER (cell c (.rcv w (par k))) (k / 2 + 1) ∗ holds c (slotM w (par k)) (val m w k (src w c)))

/-- The waits of a step and the read of the slot; the rest of the program gets what has arrived. -/
theorem wp_read (w : Way) (c : Dev nD) {k : ℕ} (hk : k < 14) {O : CellTallies nD τ sig ℕ} (hO : Above (2 * k + 2) O)
    (Q : Vec F S1x512x2048 .f32 → sProp 𝕄) :
    iprop(recs m K KS ∗ ow c O ∗ Fly m w c k
        ∗ (∀ v : Vec F S1x512x2048 .f32, ⌜shapeCast S512x2048 v shapeCasts_S1x512x2048_S512x2048 = val m w k (src w c)⌝ -∗ (ow c O ∗ Mid m w c k) -∗ Q v))
      ⊢ Wp c (waitP w k) (fun _ => Wp c (ldR w k) Q) := by
  unfold Fly Core Mid
  iintro ⟨#HR, HO, ⟨HatS, HcS, HT, HA, HRel, HC, HK⟩, HQ⟩
  iapply (wp_waitP m K KS w c hk hO)
  isplitr; · iexact HR
  isplitl [HO]; · iexact HO
  isplitl [HatS]; · iexact HatS
  isplitl [HcS]; · iexact HcS
  isplitl [HA]; · iexact HA
  iintro ⟨HO, HatS, HrS, HB, HA, HrV, HS⟩
  iapply (wp_ldR w c k (val m w k (src w c)))
  isplitl [HS]; · iexact HS
  iintro %v
  iintro %hv
  iintro HS
  iapply HQ $$ [] [HO HatS HrS HB HA HrV HS HT HRel HC HK]
  · ipureintro; exact hv
  isplitl [HO]; · iexact HO
  isplitl [HB]; · iexists _; iexact HB
  isplitl [HatS]; · iexact HatS
  isplitl [HrS]; · iexact HrS
  isplitl [HT]; · iexact HT
  isplitl [HA]; · iexact HA
  isplitl [HRel]; · iexact HRel
  isplitl [HC]; · iexact HC
  isplitl [HK]; · iexact HK
  isplitl [HrV]; · iexact HrV
  iexact HS

/-- After the read, the send buffer is rewritten and the slot given back. -/
theorem wp_refill (w : Way) (c : Dev nD) (k n : ℕ) (b : Bool) (hb : b = decide (k < 12)) (v : FVec F S512x2048 .f32)
    (X : CellTallies nD τ sig ℕ) (Q : PUnit → sProp 𝕄) :
    iprop(recs m K KS ∗ ow c (Os w c n (min 12 k) + X) ∗ Mid m w c k
        ∗ ((ow c (Os w c n (min 12 (k + 1)) + X) ∗ holds c (sB w) v ∗ Empty m w c (k + 1)) -∗ Q ⟨⟩))
      ⊢ Wp c (stS w v) (fun _ => Wp c (cond b (sigP w c) (pure ⟨⟩)) Q) := by
  unfold Mid Empty Core
  iintro ⟨#HR, HO, ⟨HB, HatS, HrS, HT, HA, HRel, HC, HK, HrV, HS⟩, HQ⟩
  iapply (wp_stS w c v)
  isplitl [HB]; · iexact HB
  iintro HB
  iapply (wp_giveback m K KS w c k n b hb (val m w k (src w c)) X)
  isplitr; · iexact HR
  isplitl [HO]; · iexact HO
  isplitl [HRel]; · iexact HRel
  isplitl [HK]; · iexact HK
  isplitl [HS]; · iexact HS
  isplitl [HrV]; · iexact HrV
  iintro ⟨HO, HRel, HK⟩
  iapply HQ
  isplitl [HO]; · iexact HO
  isplitl [HB]; · iexact HB
  isplitl [HatS]; · iexact HatS
  isplitl [HrS]; · iexact HrS
  isplitl [HT]; · iexact HT
  isplitl [HA]; · iexact HA
  isplitl [HRel]; · iexact HRel
  isplitl [HC]; · iexact HC
  iexact HK

/-! ## A step -/

/-- A ring's state before step `k`: at rest when a pass begins, the previous send in flight otherwise. -/
def Pre (w : Way) (c : Dev nD) (k : ℕ) : sProp 𝕄 := match k % 7 with
  | 0 => iprop(anyB w c ∗ Empty m w c k)
  | _ + 1 => Fly m w c (k - 1)
/-- The credits given before step `k`. -/
def ipre (k : ℕ) : ℕ := match k % 7 with | 0 => min 12 k | _ + 1 => min 12 (k - 1)

theorem pure_wp (c : Dev nD) (Q : PUnit → sProp 𝕄) : Q ⟨⟩ ⊢ Wp c (pure ⟨⟩) Q := by
  show _ ⊢ Wp c (.ret ⟨⟩) Q
  unfold Wp
  rw [wp_ret]
  iintro H; imodintro; iexact H

/-- The first half of step `k` leaves the send buffer holding what send `k` sends. -/
theorem wp_fill (w : Way) (c : Dev nD) {k : ℕ} (hk : k < 14) {X : CellTallies nD τ sig ℕ} (hX : Above (2 * k) X) (Q : PUnit → sProp 𝕄) :
    iprop(recs m K KS ∗ ow c (Os w c k (ipre k) + X) ∗ Pre m w c k
        ∗ ((ow c (Os w c k (min 12 k) + X) ∗ holds c (sB w) (val m w k c) ∗ Empty m w c k) -∗ Q ⟨⟩))
      ⊢ Wp c (fillP w c k (prod m w c (passOf k) (tOf k))) Q := by
  rcases Nat.eq_zero_or_pos (k % 7) with h | h
  · unfold fillP Pre ipre
    rw [h]
    dsimp only
    rw [val_start m w k c h]
    iintro ⟨-, HO, ⟨HB, HE⟩, HQ⟩
    iapply (wp_stS w c _)
    isplitl [HB]; · iexact HB
    iintro HB
    iapply HQ
    isplitl [HO]; · iexact HO
    isplitl [HB]; · iexact HB
    iexact HE
  · obtain ⟨n, hn⟩ := Nat.exists_eq_succ_of_ne_zero (Nat.pos_iff_ne_zero.mp h)
    obtain ⟨j, rfl⟩ : ∃ j, k = j + 1 := ⟨k - 1, by omega⟩
    unfold fillP Pre ipre
    rw [hn]
    dsimp only
    rw [Nat.add_sub_cancel, val_step m w j c (by omega)]
    simp only [wp_bind]
    iintro ⟨#HR, HO, HF, HQ⟩
    iapply (wp_read m K KS w c (k := j) (by omega) (O := Os w c (j + 1) (min 12 j) + X)
      ((Os_above w c (by omega) (by omega)).add (hX.mono (by omega))))
    isplitr; · iexact HR
    isplitl [HO]; · iexact HO
    isplitl [HF]; · iexact HF
    iintro %v
    iintro %hv
    iintro ⟨HO, HM⟩
    have e : sumV (prod m w c (passOf (j + 1)) (tOf (j + 1))) v = addf (val m w j (src w c)) (prod m w c (passOf (j + 1)) (tOf (j + 1))) := by
      unfold sumV; rw [hv]
    rw [e]
    iapply (wp_refill m K KS w c j (j + 1) (Nat.ble (j + 1) 12) (by rw [Bool.eq_iff_iff, Nat.ble_eq, decide_eq_true_iff]; omega)
      (putV (addf (val m w j (src w c)) (prod m w c (passOf (j + 1)) (tOf (j + 1))))) X)
    isplitr; · iexact HR
    isplitl [HO]; · iexact HO
    isplitl [HM]; · iexact HM
    iexact HQ

/-- What a device knows from the handshake: both slots of the downstream device are free for the first two sends. -/
def greet (w : Way) (c : Dev nD) : sProp 𝕄 := iprop(fact w (dst w c) 0 ∗ fact w (dst w c) 1)
instance greet_persistent (w : Way) (c : Dev nD) : BI.Persistent (greet (F := F) w c) := by unfold greet; infer_instance

/-- Step `k` of a ring. -/
theorem wp_step (w : Way) (c : Dev nD) {k : ℕ} (hk : k < 14) {X : CellTallies nD τ sig ℕ} (hX : Above (2 * k) X) (Q : PUnit → sProp 𝕄) :
    iprop(recs m K KS ∗ greet w c ∗ ow c (Os w c k (ipre k) + X) ∗ Pre m w c k
        ∗ ((ow c (Os w c (k + 1) (min 12 k) + X) ∗ Fly m w c k) -∗ Q ⟨⟩))
      ⊢ Wp c (stepP w c k (prod m w c (passOf k) (tOf k))) Q := by
  unfold stepP
  simp only [wp_bind]
  iintro ⟨#HR, #HG, HO, HP, HQ⟩
  iapply (wp_fill m K KS w c hk hX)
  isplitr; · iexact HR
  isplitl [HO]; · iexact HO
  isplitl [HP]; · iexact HP
  iintro ⟨HO, HB, HE⟩
  unfold Empty Core
  icases HE with ⟨HatS, #HrS, HT, HA, HRel, HC, HK⟩
  have hcred : ∀ Q' : PUnit → sProp 𝕄, iprop(recs m K KS ∗ greet w c ∗ ow c (Os w c k (min 12 k) + X) ∗ Crd m w c (k - 2)
      ∗ ((ow c (Os w c k (min 12 k) + X) ∗ Crd m w c (k - 1) ∗ fact w (dst w c) k) -∗ Q' ⟨⟩)) ⊢ Wp c (cond (Nat.ble 2 k) (crdP w) (pure ⟨⟩)) Q' := fun Q' => by
    by_cases h2 : 2 ≤ k
    · obtain ⟨j, rfl⟩ : ∃ j, k = j + 2 := ⟨k - 2, by omega⟩
      rw [show Nat.ble 2 (j + 2) = true from Nat.ble_eq.mpr h2, cond_true, show j + 2 - 2 = j from rfl, show j + 2 - 1 = j + 1 from rfl]
      iintro ⟨#HR, -, HO, HC, HQ⟩
      iapply (wp_crdP m K KS w c (j := j) (by omega) (O := Os w c (j + 2) (min 12 (j + 2)) + X) ((Os_above w c (by omega) (by omega)).add (hX.mono (by omega))))
      isplitr; · iexact HR
      isplitl [HO]; · iexact HO
      isplitl [HC]; · iexact HC
      iexact HQ
    · rw [show Nat.ble 2 k = false from by rw [Bool.eq_false_iff]; exact fun h => h2 (Nat.ble_eq.mp h), cond_false,
        show k - 1 = k - 2 by omega]
      have hg : greet w c ⊢ (fact w (dst w c) k : sProp 𝕄) := by
        unfold greet
        rcases Nat.eq_zero_or_pos k with rfl | h0
        · iintro ⟨H, -⟩; iexact H
        · obtain rfl : k = 1 := by omega
          iintro ⟨-, H⟩; iexact H
      iintro ⟨-, #HG, HO, HC, HQ⟩
      iapply (pure_wp c Q')
      iapply HQ
      isplitl [HO]; · iexact HO
      isplitl [HC]; · iexact HC
      iapply hg; iexact HG
  iapply (hcred _)
  isplitr; · iexact HR
  isplitr; · iexact HG
  isplitl [HO]; · iexact HO
  isplitl [HC]; · iexact HC
  iintro ⟨HO, HC, Hf⟩
  iapply (wp_sendP m K KS w c hk (min 12 k) X)
  isplitr; · iexact HR
  isplitl [HO]; · iexact HO
  isplitl [Hf]; · iexact Hf
  isplitl [HT]; · iexact HT
  isplitr; · iexact HrS
  isplitl [HB]; · iexact HB
  iintro ⟨HO, HT, HcS⟩
  iapply HQ
  isplitl [HO]; · iexact HO
  unfold Fly Core
  isplitl [HatS]; · iexact HatS
  isplitl [HcS]; · iexact HcS
  isplitl [HT]; · iexact HT
  isplitl [HA]; · iexact HA
  isplitl [HRel]; · iexact HRel
  isplitl [HC]; · iexact HC
  iexact HK

/-! ## A step of both rings, and the steps of a pass -/

theorem ipre_le (k : ℕ) : min 12 (k - 1) ≤ ipre k := by
  unfold ipre; split <;> omega

theorem ow_comm (c : Dev nD) (O O' : CellTallies nD τ sig ℕ) : (ow c (O + O') : sProp 𝕄) ⊢ ow c (O' + O) := Entails.of_eq (by rw [add_comm])

theorem passOf_eq (jq : Fin 2) (t : Fin 7) : passOf (7 * jq.val + t.val) = jq := Fin.ext (by show (7 * jq.val + t.val) / 7 % 2 = jq.val; omega)
theorem tOf_eq (jq : Fin 2) (t : Fin 7) : tOf (7 * jq.val + t.val) = t := Fin.ext (by show (7 * jq.val + t.val) % 7 = t.val; omega)

/-- Both rings' states and what is owed, given by one step number. -/
def Both (c : Dev nD) (S : Way → sProp 𝕄) (n i : ℕ) : sProp 𝕄 := iprop(S .R ∗ S .L ∗ ow c (Os .R c n i + Os .L c n i))

/-- Step `k` of both rings. -/
theorem wp_steps (c : Dev nD) (jq : Fin 2) (t : Fin 7) (Q : PUnit → sProp 𝕄) :
    iprop(recs m K KS ∗ greet .R c ∗ greet .L c ∗ xPt m c ∗ wPt m c
        ∗ Both c (fun w => Pre m w c (7 * jq.val + t.val)) (7 * jq.val + t.val) (ipre (7 * jq.val + t.val))
        ∗ ((xPt m c ∗ wPt m c ∗ Both c (fun w => Fly m w c (7 * jq.val + t.val)) (7 * jq.val + t.val + 1) (min 12 (7 * jq.val + t.val))) -∗ Q ⟨⟩))
      ⊢ Wp c (stepsP c jq t) Q := by
  have hk : 7 * jq.val + t.val < 14 := by omega
  have hp : ∀ w, mm (xRows m c (rowOff w c t) (rowOff_inb w c t)) (wCols m c (quarter w jq))
      = prod m w c (passOf (7 * jq.val + t.val)) (tOf (7 * jq.val + t.val)) := fun w => by rw [passOf_eq, tOf_eq]; rfl
  unfold stepsP Both
  simp only [wp_bind]
  generalize 7 * jq.val + t.val = k at hk hp ⊢
  have hi : k - 1 ≤ ipre k ∨ 12 ≤ ipre k := by unfold ipre; split <;> omega
  iintro ⟨#HR, #HGR, #HGL, Hx, Hw, ⟨HR1, HL1, HO⟩, HQ⟩
  iapply (wp_part m c _ _ _)
  isplitl [Hx]; · iexact Hx
  isplitl [Hw]; · iexact Hw
  iintro ⟨Hx, Hw⟩
  iapply (wp_part m c _ _ _)
  isplitl [Hx]; · iexact Hx
  isplitl [Hw]; · iexact Hw
  iintro ⟨Hx, Hw⟩
  rw [hp .R, hp .L]
  iapply (wp_step m K KS .R c hk (X := Os .L c k (ipre k)) (Os_above .L c (by omega) (by omega)))
  isplitr; · iexact HR
  isplitr; · iexact HGR
  isplitl [HO]; · iexact HO
  isplitl [HR1]; · iexact HR1
  iintro ⟨HO, HR1⟩
  iapply (wp_step m K KS .L c hk (X := Os .R c (k + 1) (min 12 k)) (Os_above .R c (by omega) (by omega)))
  isplitr; · iexact HR
  isplitr; · iexact HGL
  isplitl [HO]; · iapply (ow_comm c _ _); iexact HO
  isplitl [HL1]; · iexact HL1
  iintro ⟨HO, HL1⟩
  iapply HQ
  isplitl [Hx]; · iexact Hx
  isplitl [Hw]; · iexact Hw
  isplitl [HR1]; · iexact HR1
  isplitl [HL1]; · iexact HL1
  iapply (ow_comm c _ _); iexact HO

theorem loopP_succ (c : Dev nD) (jq : Fin 2) (n t : ℕ) (h : t + (n + 1) ≤ 7) :
    loopP (F := F) c jq (n + 1) t h = (do stepsP c jq ⟨t, by omega⟩; loopP c jq n (t + 1) (by omega)) := rfl
theorem loopP_zero (c : Dev nD) (jq : Fin 2) (t : ℕ) (h : t + 0 ≤ 7) : loopP (F := F) c jq 0 t h = pure ⟨⟩ := rfl

/-- The steps of a pass from step `t` on, to the last. -/
theorem wp_loop (c : Dev nD) (jq : Fin 2) (Q : PUnit → sProp 𝕄) : ∀ (n t : ℕ) (h : t + (n + 1) = 7),
    iprop(recs m K KS ∗ greet .R c ∗ greet .L c ∗ xPt m c ∗ wPt m c
        ∗ Both c (fun w => Pre m w c (7 * jq.val + t)) (7 * jq.val + t) (ipre (7 * jq.val + t))
        ∗ ((xPt m c ∗ wPt m c ∗ Both c (fun w => Fly m w c (7 * jq.val + 6)) (7 * jq.val + 7) (min 12 (7 * jq.val + 6))) -∗ Q ⟨⟩))
      ⊢ Wp c (loopP c jq (n + 1) t (Nat.le_of_eq h)) Q
  | 0, t, h => by
    obtain rfl : t = 6 := by omega
    rw [loopP_succ, loopP_zero]
    simp only [wp_bind]
    have hs := fun Q => wp_steps m K KS c jq ⟨6, by omega⟩ Q
    dsimp only at hs
    iintro ⟨HR, HGR, HGL, Hx, Hw, HB, HQ⟩
    iapply (hs _)
    isplitl [HR]; · iexact HR
    isplitl [HGR]; · iexact HGR
    isplitl [HGL]; · iexact HGL
    isplitl [Hx]; · iexact Hx
    isplitl [Hw]; · iexact Hw
    isplitl [HB]; · iexact HB
    iintro H
    iapply (pure_wp c Q)
    iapply HQ
    iexact H
  | n + 1, t, h => by
    rw [loopP_succ]
    simp only [wp_bind]
    have e : (7 * jq.val + (t + 1)) % 7 = t + 1 := by omega
    have hP : ∀ w, Pre m w c (7 * jq.val + (t + 1)) = Fly m w c (7 * jq.val + t) := fun w => by unfold Pre; rw [e]; rfl
    have hi : ipre (7 * jq.val + (t + 1)) = min 12 (7 * jq.val + t) := by unfold ipre; rw [e]; rfl
    have ih := wp_loop c jq Q n (t + 1) (by omega)
    rw [hi] at ih
    simp only [hP] at ih
    have hs := fun Q => wp_steps m K KS c jq ⟨t, by omega⟩ Q
    dsimp only at hs
    iintro ⟨#HR, #HGR, #HGL, Hx, Hw, HB, HQ⟩
    iapply (hs _)
    isplitr; · iexact HR
    isplitr; · iexact HGR
    isplitr; · iexact HGL
    isplitl [Hx]; · iexact Hx
    isplitl [Hw]; · iexact Hw
    isplitl [HB]; · iexact HB
    iintro ⟨Hx, Hw, HB⟩
    iapply ih
    isplitr; · iexact HR
    isplitr; · iexact HGR
    isplitr; · iexact HGL
    isplitl [Hx]; · iexact Hx
    isplitl [Hw]; · iexact Hw
    isplitl [HB]; · iexact HB
    iexact HQ

/-! ## The end of a pass -/

/-- The end of pass `jq` of a ring: the copy of its quarter is in flight, nothing else. -/
theorem wp_end (w : Way) (c : Dev nD) (jq : Fin 2) {X : CellTallies nD τ sig ℕ} (hX : Above (2 * (7 * jq.val + 6) + 2) X) (Q : PUnit → sProp 𝕄) :
    iprop(recs m K KS ∗ ow c (Os w c (7 * jq.val + 7) (min 12 (7 * jq.val + 6)) + X) ∗ Fly m w c (7 * jq.val + 6) ∗ OutPre w c jq
        ∗ Outs w c jq.val
        ∗ ((ow c (Os w c (7 * jq.val + 7) (min 12 (7 * jq.val + 7)) + X) ∗ Empty m w c (7 * jq.val + 7)
            ∗ atPos ER (cell c (.out w)) jq.val ∅ 0 ∗ cred (tallyAt (cell c (.out w)) 0 N)) -∗ Q ⟨⟩))
      ⊢ Wp c (endP w c jq (ownProd m w c jq)) Q := by
  unfold endP Outs
  simp only [wp_bind]
  iintro ⟨#HR, HO, HF, HP, ⟨HatO, HrO⟩, HQ⟩
  iapply (wp_read m K KS w c (k := 7 * jq.val + 6) (by omega) (O := Os w c (7 * jq.val + 7) (min 12 (7 * jq.val + 6)) + X)
    ((Os_above w c (by omega) (by omega)).add hX))
  isplitr; · iexact HR
  isplitl [HO]; · iexact HO
  isplitl [HF]; · iexact HF
  iintro %v
  iintro %hv
  iintro ⟨HO, HM⟩
  have e : putV (geluV (sumV (ownProd m w c jq) v)) = res m w c jq := by
    unfold sumV res; rw [hv]
  rw [e]
  iapply (wp_refill m K KS w c (7 * jq.val + 6) (7 * jq.val + 7) (Nat.beq jq.val 0)
    (by rw [Bool.eq_iff_iff, Nat.beq_eq, decide_eq_true_iff]; omega) (res m w c jq) X)
  isplitr; · iexact HR
  isplitl [HO]; · iexact HO
  isplitl [HM]; · iexact HM
  iintro ⟨HO, HB, HE⟩
  iapply (wp_copyP m K KS w c jq)
  isplitr; · iexact HR
  isplitl [HP]; · iexact HP
  isplitl [HrO]; · iexact HrO
  isplitl [HB]; · iexact HB
  iintro HcO
  iapply HQ
  isplitl [HO]; · iexact HO
  isplitl [HE]; · iexact HE
  isplitl [HatO]; · iexact HatO
  iexact HcO

/-! ## A pass -/

/-- A ring between passes: at rest, `j` quarters copied. -/
def Idle (w : Way) (c : Dev nD) (j : ℕ) : sProp 𝕄 := iprop(anyB w c ∗ Empty m w c (7 * j) ∗ Outs w c j)

/-- A pass of both rings: two quarters of the result are written. -/
theorem wp_pass (c : Dev nD) (jq : Fin 2) (Q : PUnit → sProp 𝕄) :
    iprop(recs m K KS ∗ greet .R c ∗ greet .L c ∗ xPt m c ∗ wPt m c
        ∗ Both c (fun w => Idle m w c jq.val) (7 * jq.val) (min 12 (7 * jq.val))
        ∗ OutPre .R c jq ∗ OutPre .L c jq
        ∗ ((xPt m c ∗ wPt m c ∗ Both c (fun w => Idle m w c (jq.val + 1)) (7 * (jq.val + 1)) (min 12 (7 * (jq.val + 1)))
            ∗ holds c (outM (quarter .R jq)) (res m .R c jq) ∗ holds c (outM (quarter .L jq)) (res m .L c jq)) -∗ Q ⟨⟩))
      ⊢ Wp c (passP c jq) Q := by
  have e0 : (7 * jq.val) % 7 = 0 := by omega
  have hP : ∀ w, Pre m w c (7 * jq.val + 0) = iprop(anyB w c ∗ Empty m w c (7 * jq.val)) := fun w => by
    unfold Pre; rw [Nat.add_zero, e0]
  have hi : ipre (7 * jq.val + 0) = min 12 (7 * jq.val) := by unfold ipre; rw [Nat.add_zero, e0]
  unfold passP Idle
  simp only [wp_bind]
  rw [show 7 * (jq.val + 1) = 7 * jq.val + 7 by omega]
  have hloop := fun Q => wp_loop m K KS c jq Q 6 0 rfl
  rw [hi] at hloop
  simp only [hP] at hloop
  unfold Both at hloop ⊢
  iintro ⟨#HR, #HGR, #HGL, Hx, Hw, ⟨⟨HBR, HER, HoR⟩, ⟨HBL, HEL, HoL⟩, HO⟩, HPR, HPL, HQ⟩
  iapply (hloop _)
  isplitr; · iexact HR
  isplitr; · iexact HGR
  isplitr; · iexact HGL
  isplitl [Hx]; · iexact Hx
  isplitl [Hw]; · iexact Hw
  isplitl [HBR HER HBL HEL HO]
  · isplitl [HBR HER]
    · isplitl [HBR]; · iexact HBR
      iexact HER
    isplitl [HBL HEL]
    · isplitl [HBL]; · iexact HBL
      iexact HEL
    iexact HO
  iintro ⟨Hx, Hw, HFR, HFL, HO⟩
  iapply (wp_part m c _ _ _)
  isplitl [Hx]; · iexact Hx
  isplitl [Hw]; · iexact Hw
  iintro ⟨Hx, Hw⟩
  iapply (wp_part m c _ _ _)
  isplitl [Hx]; · iexact Hx
  isplitl [Hw]; · iexact Hw
  iintro ⟨Hx, Hw⟩
  iapply (wp_end m K KS .R c jq (X := Os .L c (7 * jq.val + 7) (min 12 (7 * jq.val + 6))) (Os_above .L c (by omega) (by omega)))
  isplitr; · iexact HR
  isplitl [HO]; · iexact HO
  isplitl [HFR]; · iexact HFR
  isplitl [HPR]; · iexact HPR
  isplitl [HoR]; · iexact HoR
  iintro ⟨HO, HER, HatR, HcR⟩
  iapply (wp_end m K KS .L c jq (X := Os .R c (7 * jq.val + 7) (min 12 (7 * jq.val + 7))) (Os_above .R c (by omega) (by omega)))
  isplitr; · iexact HR
  isplitl [HO]; · iapply (ow_comm c _ _); iexact HO
  isplitl [HFL]; · iexact HFL
  isplitl [HPL]; · iexact HPL
  isplitl [HoL]; · iexact HoL
  iintro ⟨HO, HEL, HatL, HcL⟩
  have hA : Above 0 (Os .L c (7 * jq.val + 7) (min 12 (7 * jq.val + 7)) + Os .R c (7 * jq.val + 7) (min 12 (7 * jq.val + 7))) :=
    (Os_above .L c (by omega) (by omega)).add (Os_above .R c (by omega) (by omega))
  iapply (wp_waitO m K KS .R c jq hA)
  isplitr; · iexact HR
  isplitl [HO]; · iexact HO
  isplitl [HcR]; · iexact HcR
  isplitl [HatR]; · iexact HatR
  iintro ⟨HO, HoR, HBR, HqR⟩
  iapply (wp_waitO m K KS .L c jq hA)
  isplitr; · iexact HR
  isplitl [HO]; · iexact HO
  isplitl [HcL]; · iexact HcL
  isplitl [HatL]; · iexact HatL
  iintro ⟨HO, HoL, HBL, HqL⟩
  iapply HQ
  isplitl [Hx]; · iexact Hx
  isplitl [Hw]; · iexact Hw
  isplitr [HqR HqL]
  · isplitl [HBR HER HoR]
    · isplitl [HBR]; · iexact HBR
      isplitl [HER]; · iexact HER
      iexact HoR
    isplitl [HBL HEL HoL]
    · isplitl [HBL]; · iexact HBL
      isplitl [HEL]; · iexact HEL
      iexact HoL
    iapply (ow_comm c _ _); iexact HO
  isplitl [HqR]; · iexact HqR
  iexact HqL

end Cert.KernelIdeal.Ring

end
-- ==== Proof.Whole.lean ====
/-
  The whole body: each device releases all its slots and tells both neighbours on the barrier, waits for both, makes the two
  passes, and closes its cells.
-/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (K : Dev nD × Kd → ℕ) (KS : Key → ℕ)

/-! ## A ring's start and end on a device -/

/-- What a ring starts from: its buffers, the tokens of its sends, arrivals, credits and copies, the barrier's unit it pays. -/
def Ring0 (w : Way) (c : Dev nD) : sProp 𝕄 :=
  iprop(anyB w c ∗ (slotRes (c, w, 0) ∗ slotRes (c, w, 1))
    ∗ (atPos ER (cell c (.snd w)) 0 ∅ 0 ∗ Toks w c 0 ∗ Arr w c 0)
    ∗ ((bigSep (Finset.Ico 0 12) fun j => dutyTok ER (cell (src w c) (.crd w)) 0 j) ∗ readerAt ES (c, w, 0) 0 ∗ readerAt ES (c, w, 1) 0)
    ∗ (atPos ER (cell c (.crd w)) 0 ∅ 0 ∗ bigSep (Finset.Ico 0 12) fun i => cred (tallyAt (cell c (.crd w)) i 1))
    ∗ (atPos ER (cell c (.out w)) 0 ∅ 0 ∗ OutPre w c 0 ∗ OutPre w c 1)
    ∗ dutyTok ER (cell (src w c) .bar) 0 (wn w))

/-- What it leaves: the buffers, its semaphores at zero, two quarters of the result. -/
def Ring1 (w : Way) (c : Dev nD) : sProp 𝕄 :=
  iprop(anyB w c ∗ (slotRes (c, w, 0) ∗ slotRes (c, w, 1))
    ∗ (semVal (cell c (.snd w)) 0 ∗ semVal (cell c (.rcv w 0)) 0 ∗ semVal (cell c (.rcv w 1)) 0 ∗ semVal (cell c (.out w)) 0 ∗ semVal (cell c (.crd w)) 0)
    ∗ holds c (outM (quarter w 0)) (res m w c 0) ∗ holds c (outM (quarter w 1)) (res m w c 1))

/-- On entering, a device releases both slots of a ring: this gives the barrier's facts. -/
theorem ring_release (w : Way) (c : Dev nD) :
    iprop(recs m K KS ∗ (bigSep (Finset.Ico 0 12) fun j => dutyTok ER (cell (src w c) (.crd w)) 0 j)
        ∗ readerAt ES (c, w, 0) 0 ∗ readerAt ES (c, w, 1) 0 ∗ slotRes (c, w, 0) ∗ slotRes (c, w, 1))
      ⊢ |={Set.univ}=> iprop(Rel w c 0 ∗ fact w c 0 ∗ fact w c 1) := by
  unfold Rel fact
  iintro ⟨#HR, Hts, H0, H1, HS0, HS1⟩
  imod (slot_release ES (Set.mem_univ (KS (c, w, 0))) (S := slotRes (c, w, 0)) (slot_slot_false (slot_nonempty w 0)) 0) $$ [H0 HS0] with ⟨H0, #Hl0⟩
  · isplitr; · iapply (recs_slot m K KS (c, w, 0)); iexact HR
    isplitl [H0]; · iexact H0
    iexact HS0
  imod (slot_release ES (Set.mem_univ (KS (c, w, 1))) (S := slotRes (c, w, 1)) (slot_slot_false (slot_nonempty w 1)) 0) $$ [H1 HS1] with ⟨H1, #Hl1⟩
  · isplitr; · iapply (recs_slot m K KS (c, w, 1)); iexact HR
    isplitl [H1]; · iexact H1
    iexact HS1
  ihave #Hr0 := (recs_reached m K KS c (.rcv w 0)) $$ HR
  ihave #Hr1 := (recs_reached m K KS c (.rcv w 1)) $$ HR
  imodintro
  isplitl [Hts H0 H1]
  · isplitl [Hts]; · iexact Hts
    isplitl [H0]; · iexact H0
    isplitl [H1]; · iexact H1
    isplitr
    · isplitr; · iexact Hl0
      iexact Hr0
    isplitr; · iexact Hl1
    iexact Hr1
  isplitr
  · isplitr; · iexact Hl0
    iexact Hr0
  isplitr; · iexact Hl1
  iexact Hr1

/-- A cell past its last round is closed: its counter is zero. -/
theorem close (c : Dev nD) (k : Kd) (R : ℕ) (hR : ∀ r, R ≤ r → kduties k r = ∅) :
    iprop(recs m K KS ∗ atPos ER (cell c k) R ∅ 0) ⊢ |={Set.univ}=> semVal (cell c k) 0 := by
  iintro ⟨#HR, Hat⟩
  iapply (Rounds.cell_close ER (Rd m) (Set.mem_univ (K (c, k))) (fun h => h) (R := R) (fun r hr => (duties_eq m c k r).trans (hR r hr)))
  isplitr; · iapply (recs_cell m K KS c k); iexact HR
  iexact Hat

/-- All twelve credits received and waited for, the credit cell's round is over. -/
theorem crd_done (w : Way) (c : Dev nD) : iprop(recs m K KS ∗ Crd m w c 12) ⊢ |={Set.univ}=> atPos ER (cell c (.crd w)) 1 ∅ 0 := by
  unfold Crd
  iintro ⟨#HR, ⟨%T, %hT, Hat, -, -⟩⟩
  have hd : (Rd (F := F) m).duties (cell c (.crd w)) 0 = Finset.range 12 := duties_eq m c (.crd w) 0
  have hfull : (Rd (F := F) m).duties (cell c (.crd w)) 0 ⊆ T := by
    rw [hd, Finset.eq_of_subset_of_card_le hT.1 (by rw [Finset.card_range]; exact hT.2)]
  have h3 : 12 = (Rd (F := F) m).expect (cell c (.crd w)) 0 := by
    rw [expect_eq]; show 12 = (Finset.range 12).card * 1; rw [Finset.card_range]
  imod (Rounds.fupd_skip ER (Rd m) (κ := K (c, .crd w)) (g := cell c (.crd w)) (R := 0) (m := 12) (T := T) hfull h3 (Set.mem_univ _)) $$ [Hat] with ⟨Hat, -⟩
  · isplitr; · iapply (recs_cell m K KS c (.crd w)); iexact HR
    iexact Hat
  imodintro
  iexact Hat

/-- After the two passes a ring's cells close and its slots are all held. -/
theorem ring_close (w : Way) (c : Dev nD) :
    iprop(recs m K KS ∗ Idle m w c 2)
      ⊢ |={Set.univ}=> iprop(anyB w c ∗ (slotRes (c, w, 0) ∗ slotRes (c, w, 1))
          ∗ (semVal (cell c (.snd w)) 0 ∗ semVal (cell c (.rcv w 0)) 0 ∗ semVal (cell c (.rcv w 1)) 0 ∗ semVal (cell c (.out w)) 0 ∗ semVal (cell c (.crd w)) 0)) := by
  have hK : (Kept (F := F) w c 14 : sProp 𝕄) ⊢ iprop(slotRes (c, w, 0) ∗ slotRes (c, w, 1)) := by
    unfold Kept
    rw [bigSep_head (by decide), bigSep_head (by decide)]
    iintro ⟨H0, H1, -⟩
    isplitl [H0]; · iexact H0
    iexact H1
  unfold Idle Empty Core Outs Arr
  rw [show 7 * 2 = 14 from rfl]
  iintro ⟨#HR, HB, ⟨HatS, -, -, ⟨Hat0, Hat1, -⟩, -, HC, HS⟩, HatO, -⟩
  imod (crd_done m K KS w c) $$ [HC] with HatC
  · isplitr; · iexact HR
    iexact HC
  imod (close m K KS c (.snd w) 14 (fun r hr => if_neg (by omega))) $$ [HatS] with HzS
  · isplitr; · iexact HR
    iexact HatS
  imod (close m K KS c (.rcv w 0) 7 (fun r hr => if_neg (by omega))) $$ [Hat0] with Hz0
  · isplitr; · iexact HR
    iexact Hat0
  imod (close m K KS c (.rcv w 1) 7 (fun r hr => if_neg (by omega))) $$ [Hat1] with Hz1
  · isplitr; · iexact HR
    iexact Hat1
  imod (close m K KS c (.out w) 2 (fun r hr => if_neg (by omega))) $$ [HatO] with HzO
  · isplitr; · iexact HR
    iexact HatO
  imod (close m K KS c (.crd w) 1 (fun r hr => if_neg (by omega))) $$ [HatC] with HzC
  · isplitr; · iexact HR
    iexact HatC
  imodintro
  isplitl [HB]; · iexact HB
  isplitl [HS]; · iapply hK; iexact HS
  isplitl [HzS]; · iexact HzS
  isplitl [Hz0]; · iexact Hz0
  isplitl [Hz1]; · iexact Hz1
  isplitl [HzO]; · iexact HzO
  iexact HzC

/-! ## The handshake -/

/-- What a device owes at the start: on both rings all arrivals and credits; a barrier unit to each neighbour. -/
def O₁ (c : Dev nD) : CellTallies nD τ sig ℕ := Os .R c 0 0 + Os .L c 0 0
def O₀ (c : Dev nD) : CellTallies nD τ sig ℕ := O₁ c + tallyAt (cell (src .L c) .bar) 0 1 + tallyAt (cell (src .R c) .bar) 0 1

theorem O₁_above (c : Dev nD) : Above 1 (O₁ c) := (Os_above .R c (by omega) (by omega)).add (Os_above .L c (by omega) (by omega))
theorem O₀_above (c : Dev nD) : Above 0 (O₀ c) :=
  (((O₁_above c).mono (by omega)).add (Above.tally _ _ (by decide) (by decide))).add (Above.tally _ _ (by decide) (by decide))

/-- A barrier unit of way `w` is paid, with the facts of that ring. -/
theorem wp_greet (w : Way) (c d : Dev nD) (hd : d = src w c) (O : CellTallies nD τ sig ℕ) (Q : PUnit → sProp 𝕄) :
    iprop(recs m K KS ∗ ow c (O + tallyAt (cell (src w c) .bar) 0 1) ∗ dutyTok ER (cell (src w c) .bar) 0 (wn w) ∗ fact w c 0 ∗ fact w c 1
        ∗ (ow c O -∗ Q ⟨⟩))
      ⊢ Wp c (semSignalWord d barS 1#32) Q := by
  subst hd
  simp only [semSignalWord]
  unfold ow
  iintro ⟨#HR, ⟨%W, HO⟩, Ht, Hf0, Hf1, HQ⟩
  iapply (Rounds.wp_signal 𝒱₀ ER (Rd m) (c : Thread nD τ) none (dst := ((src w c : Dev nD) : Thread nD τ)) (κ := K (src w c, .bar)) (r := 0) (d := wn w)
    (by rw [duties_eq m (src w c) .bar]; show wn w ∈ ({0, 1} : Finset ℕ); cases w <;> decide)
    ((amount_eq m (src w c) .bar 0 (wn w)).trans (by show 1 = (1#32 : BitVec 32).toInt.toNat; decide)) 0 O rfl) $$ [HO Ht Hf0 Hf1]
  · isplitr; · iapply (recs_cell m K KS (src w c) .bar); iexact HR
    isplitl [HO]; · iexact HO
    isplitl [Ht]; · iexact Ht
    isplitl [Hf0 Hf1]
    · have hp : iprop(fact w c 0 ∗ fact w c 1) ⊢ (Rd (F := F) m).payload (cell (src w c) .bar) 0 (wn w) := Entails.of_eq (by
        rw [payload_eq]
        show _ = iprop(fact (wOf (wn w)) (dst (wOf (wn w)) (src w c)) 0 ∗ fact (wOf (wn w)) (dst (wOf (wn w)) (src w c)) 1)
        rw [wOf_wn, dst_src])
      iapply hp
      isplitl [Hf0]; · iexact Hf0
      iexact Hf1
    iapply (recs_reached m K KS (src w c) .bar); iexact HR
  iintro HO
  rw [wp_ret]; imodintro
  iapply HQ
  iexists W; iexact HO

/-- The wait for both neighbours. -/
theorem wp_met (c : Dev nD) (Q : PUnit → sProp 𝕄) :
    iprop(recs m K KS ∗ ow c (O₁ c) ∗ cred (tallyAt (cell c .bar) 0 2) ∗ atPos ER (cell c .bar) 0 ∅ 0
        ∗ ((ow c (O₁ c) ∗ atPos ER (cell c .bar) 1 ∅ 0 ∗ greet .R c ∗ greet .L c) -∗ Q ⟨⟩))
      ⊢ Wp c (semWaitWord barS 2#32) Q := by
  simp only [semWaitWord]
  unfold ow
  iintro ⟨#HR, ⟨%W, HO⟩, Hc, Hat, HQ⟩
  iapply (Rounds.wp_wait_rest_token 𝒱₀ ER (Rd m) (c : Thread nD τ) none (κ := K (c, .bar)) (wpE_semWait_eq 𝒱₀ (c : Thread nD τ) none Set.univ)
    (Set.mem_univ _) 0 (O := O₁ c) (W := W) (R := 0) (m := 0) (T := ∅) (by rw [expect_eq m c .bar]; decide)) $$ [Hc HO Hat]
  · isplitr; · iapply (recs_cell m K KS c .bar); iexact HR
    isplitl [Hc]; · iexact Hc
    isplitl [HO]; · iexact HO
    isplitr
    · iapply (mayWait_of_above (O₁_above c) c (ksem .bar) (u := 0) (by decide) (by rw [show lv ((c : Thread nD τ), ksem .bar) 0 = klv .bar 0 from lv_cell c .bar 0]; decide))
      iapply (recs_lev m K KS); iexact HR
    iexact Hat
  iintro ⟨HO, Hat, -, Hp⟩
  have hp : bigSep ((Rd m).duties (cell c .bar) 0 \ ∅) (fun d => (Rd m).payload (cell c .bar) 0 d) ⊢ iprop(greet .R c ∗ greet .L c) := Entails.of_eq (by
    rw [duties_eq m c .bar, Finset.sdiff_empty]
    show bigSep ({0, 1} : Finset ℕ) _ = _
    rw [bigSep_insert (by decide), bigSep_singleton, payload_eq, payload_eq]
    rfl)
  ihave Hp := hp $$ Hp
  rw [wp_ret]; imodintro
  iapply HQ
  isplitl [HO]; · iexists _; iexact HO
  isplitl [Hat]; · iexact Hat
  iexact Hp

/-! ## The body -/

/-- A ring at the start of the first pass. -/
theorem idle_start (w : Way) (c : Dev nD) :
    iprop(recs m K KS ∗ anyB w c ∗ atPos ER (cell c (.snd w)) 0 ∅ 0 ∗ Toks w c 0 ∗ Arr w c 0 ∗ Rel w c 0
        ∗ atPos ER (cell c (.crd w)) 0 ∅ 0 ∗ (bigSep (Finset.Ico 0 12) fun i => cred (tallyAt (cell c (.crd w)) i 1)) ∗ atPos ER (cell c (.out w)) 0 ∅ 0)
      ⊢ Idle m w c 0 := by
  unfold Idle Empty Core Outs Crd Kept
  rw [show 7 * 0 = 0 from rfl]
  iintro ⟨#HR, HB, HatS, HT, HA, HRel, HatC, Hcs, HatO⟩
  ihave #HrS := (recs_reached m K KS c (.snd w)) $$ HR
  ihave #HrO := (recs_reached m K KS c (.out w)) $$ HR
  isplitl [HB]; · iexact HB
  isplitr [HatO]
  · isplitl [HatS]; · iexact HatS
    isplitr; · iexact HrS
    isplitl [HT]; · iexact HT
    isplitl [HA]; · iexact HA
    isplitl [HRel]; · iexact HRel
    isplitl [HatC Hcs]
    · iexists ∅
      isplitr; · ipureintro; exact ⟨Finset.empty_subset _, Nat.zero_le _⟩
      isplitl [HatC]; · iexact HatC
      isplitr; · rw [bigSep_empty]; iempintro
      iexact Hcs
    rw [Finset.Ico_eq_empty (by decide), bigSep_empty]
    iempintro
  isplitl [HatO]; · iexact HatO
  iexact HrO

/-- The whole body on device `c`. -/
theorem wp_body (c : Dev nD) (Q : PUnit → sProp 𝕄) :
    iprop(recs m K KS ∗ ow c (O₀ c) ∗ xPt m c ∗ wPt m c ∗ (atPos ER (cell c .bar) 0 ∅ 0 ∗ cred (tallyAt (cell c .bar) 0 2))
        ∗ Ring0 .R c ∗ Ring0 .L c
        ∗ ((ow c 0 ∗ xPt m c ∗ wPt m c ∗ semVal (cell c .bar) 0 ∗ Ring1 m .R c ∗ Ring1 m .L c) -∗ Q ⟨⟩))
      ⊢ Wp c bodyP Q := by
  refine BI.Entails.trans ?_ (wp_fupd frame (wpE (defs₀ (F := F)) 𝒱₀ (c : Thread nD τ) none) Set.univ bodyP Q)
  show (_ : sProp 𝕄) ⊢ _
  unfold bodyP Ring0
  simp only [wp_bind, Prog.lift, wp_deviceId, wp_ret]
  iintro ⟨#HR, HO, Hx, Hw, ⟨HatB, HcB⟩,
    ⟨HBR, ⟨HS0R, HS1R⟩, ⟨HatSR, HTR, HAR⟩, ⟨HtsR, Hr0R, Hr1R⟩, ⟨HatCR, HcsR⟩, ⟨HatOR, HP0R, HP1R⟩, HtBR⟩,
    ⟨HBL, ⟨HS0L, HS1L⟩, ⟨HatSL, HTL, HAL⟩, ⟨HtsL, Hr0L, Hr1L⟩, ⟨HatCL, HcsL⟩, ⟨HatOL, HP0L, HP1L⟩, HtBL⟩, HQ⟩
  imod (ring_release m K KS .R c) $$ [HtsR Hr0R Hr1R HS0R HS1R] with ⟨HRelR, #HfR⟩
  · isplitr; · iexact HR
    isplitl [HtsR]; · iexact HtsR
    isplitl [Hr0R]; · iexact Hr0R
    isplitl [Hr1R]; · iexact Hr1R
    isplitl [HS0R]; · iexact HS0R
    iexact HS1R
  imod (ring_release m K KS .L c) $$ [HtsL Hr0L Hr1L HS0L HS1L] with ⟨HRelL, #HfL⟩
  · isplitr; · iexact HR
    isplitl [HtsL]; · iexact HtsL
    isplitl [Hr0L]; · iexact Hr0L
    isplitl [Hr1L]; · iexact Hr1L
    isplitl [HS0L]; · iexact HS0L
    iexact HS1L
  imodintro
  unfold O₀
  iapply (wp_greet m K KS .R c _ rfl (O₁ c + tallyAt (cell (src .L c) .bar) 0 1))
  isplitr; · iexact HR
  isplitl [HO]; · iexact HO
  isplitl [HtBR]; · iexact HtBR
  icases HfR with ⟨HfR0, HfR1⟩
  isplitr; · iexact HfR0
  isplitr; · iexact HfR1
  iintro HO
  iapply (wp_greet m K KS .L c (dst .R c) rfl (O₁ c))
  isplitr; · iexact HR
  isplitl [HO]; · iexact HO
  isplitl [HtBL]; · iexact HtBL
  icases HfL with ⟨HfL0, HfL1⟩
  isplitr; · iexact HfL0
  isplitr; · iexact HfL1
  iintro HO
  iapply (wp_met m K KS c)
  isplitr; · iexact HR
  isplitl [HO]; · iexact HO
  isplitl [HcB]; · iexact HcB
  isplitl [HatB]; · iexact HatB
  iintro ⟨HO, HatB, #HgR, #HgL⟩
  ihave HIR := (idle_start m K KS .R c) $$ [HBR HatSR HTR HAR HRelR HatCR HcsR HatOR]
  · isplitr; · iexact HR
    isplitl [HBR]; · iexact HBR
    isplitl [HatSR]; · iexact HatSR
    isplitl [HTR]; · iexact HTR
    isplitl [HAR]; · iexact HAR
    isplitl [HRelR]; · iexact HRelR
    isplitl [HatCR]; · iexact HatCR
    isplitl [HcsR]; · iexact HcsR
    iexact HatOR
  ihave HIL := (idle_start m K KS .L c) $$ [HBL HatSL HTL HAL HRelL HatCL HcsL HatOL]
  · isplitr; · iexact HR
    isplitl [HBL]; · iexact HBL
    isplitl [HatSL]; · iexact HatSL
    isplitl [HTL]; · iexact HTL
    isplitl [HAL]; · iexact HAL
    isplitl [HRelL]; · iexact HRelL
    isplitl [HatCL]; · iexact HatCL
    isplitl [HcsL]; · iexact HcsL
    iexact HatOL
  have h0 := fun Q => wp_pass m K KS c 0 Q
  have h1 := fun Q => wp_pass m K KS c 1 Q
  unfold Both at h0 h1
  iapply (h0 _)
  isplitr; · iexact HR
  isplitr; · iexact HgR
  isplitr; · iexact HgL
  isplitl [Hx]; · iexact Hx
  isplitl [Hw]; · iexact Hw
  isplitl [HIR HIL HO]
  · isplitl [HIR]; · iexact HIR
    isplitl [HIL]; · iexact HIL
    iexact HO
  isplitl [HP0R]; · iexact HP0R
  isplitl [HP0L]; · iexact HP0L
  iintro ⟨Hx, Hw, ⟨HIR, HIL, HO⟩, HqR0, HqL0⟩
  iapply (h1 _)
  isplitr; · iexact HR
  isplitr; · iexact HgR
  isplitr; · iexact HgL
  isplitl [Hx]; · iexact Hx
  isplitl [Hw]; · iexact Hw
  isplitl [HIR HIL HO]
  · isplitl [HIR]; · iexact HIR
    isplitl [HIL]; · iexact HIL
    iexact HO
  isplitl [HP1R]; · iexact HP1R
  isplitl [HP1L]; · iexact HP1L
  have hO : (ow c (Os .R c (7 * ((1 : Fin 2).val + 1)) (min 12 (7 * ((1 : Fin 2).val + 1))) + Os .L c (7 * ((1 : Fin 2).val + 1)) (min 12 (7 * ((1 : Fin 2).val + 1)))) : sProp 𝕄) ⊢ ow c 0 :=
    Entails.of_eq (by
      rw [show 7 * ((1 : Fin 2).val + 1) = 14 from rfl, show min 12 14 = 12 from rfl, Os_done, Os_done, add_zero])
  iintro ⟨Hx, Hw, ⟨HIR, HIL, HO⟩, HqR1, HqL1⟩
  imod (ring_close m K KS .R c) $$ [HIR] with ⟨HBR, HSR, HzR⟩
  · isplitr; · iexact HR
    iexact HIR
  imod (ring_close m K KS .L c) $$ [HIL] with ⟨HBL, HSL, HzL⟩
  · isplitr; · iexact HR
    iexact HIL
  imod (close m K KS c .bar 1 (fun r hr => if_neg (by omega))) $$ [HatB] with HzB
  · isplitr; · iexact HR
    iexact HatB
  imodintro
  iapply HQ
  unfold Ring1
  isplitl [HO]; · iapply hO; iexact HO
  isplitl [Hx]; · iexact Hx
  isplitl [Hw]; · iexact Hw
  isplitl [HzB]; · iexact HzB
  isplitl [HBR HSR HzR HqR0 HqR1]
  · isplitl [HBR]; · iexact HBR
    isplitl [HSR]; · iexact HSR
    isplitl [HzR]; · iexact HzR
    isplitl [HqR0]; · iexact HqR0
    iexact HqR1
  isplitl [HBL]; · iexact HBL
  isplitl [HSL]; · iexact HSL
  isplitl [HzL]; · iexact HzL
  isplitl [HqL0]; · iexact HqL0
  iexact HqL1

end Cert.KernelIdeal.Ring

end
-- ==== Proof.Split.lean ====
/-
  The buffers cut as the protocol uses them: a receive buffer into its two slots, the result into its four quarters, and both
  put together again at the end.
-/
module

public import proofs.«01_k».proof.Proof.Whole
public import Idealize.ShloMosaic.Lib.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## A receive buffer and its two slots -/

/-- The elements of a slot. -/
def slotSet (p : Fin 2) : Finset S2x512x2048.Idx := (Rect.unit (s := S2x512x2048) ![p.val, 0, 0] S1x512x2048.size (inb_slot p)).set

theorem slotSet_disjoint (p p' : Fin 2) (h : p ≠ p') : Disjoint (slotSet p) (slotSet p') :=
  Idealize.ShloMosaic.Ring.lead_disjoint (s := S2x512x2048) 0 1 (fun p : Fin 2 => ![p.val, 0, 0]) S1x512x2048.size inb_slot
    (fun p => (Nat.one_mul _).symm) rfl p p' h
theorem slotSet_cover : Finset.univ.biUnion slotSet = Finset.univ :=
  Idealize.ShloMosaic.Ring.lead_cover (s := S2x512x2048) 0 1 (fun p : Fin 2 => ![p.val, 0, 0]) S1x512x2048.size inb_slot
    (fun p => (Nat.one_mul _).symm) (by decide) rfl (by decide) rfl

/-- The receive buffer of a ring on a device, whole, at some contents. -/
def wholeR (w : Way) (c : Dev nD) : sProp 𝕄 := match w with
  | .R => iprop(∃ f, (c : Thread nD τ).loc cc0_scratch2 ↦{fullShare} f)
  | .L => iprop(∃ f, (c : Thread nD τ).loc cc0_scratch3 ↦{fullShare} f)

theorem slotRes_eq (w : Way) (c : Dev nD) (p : Fin 2) :
    (slotRes (c, w, p) : sProp 𝕄) = match w with
      | .R => iprop(∃ f, (c : Thread nD τ).loc cc0_scratch2 ↦[slotSet p]{fullShare} f)
      | .L => iprop(∃ f, (c : Thread nD τ).loc cc0_scratch3 ↦[slotSet p]{fullShare} f) := by
  cases w
  · have h : (slotM .R p).view.set = slotSet p := (View.set_reshape _ _).trans (View.set_slice_whole cc0_scratch2 _)
    show iprop(∃ f, (c : Thread nD τ).loc cc0_scratch2 ↦[(slotM .R p).view.set]{fullShare} f) = _
    rw [h]
  · have h : (slotM .L p).view.set = slotSet p := (View.set_reshape _ _).trans (View.set_slice_whole cc0_scratch3 _)
    show iprop(∃ f, (c : Thread nD τ).loc cc0_scratch3 ↦[(slotM .L p).view.set]{fullShare} f) = _
    rw [h]

theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A receive buffer is its two slots. -/
theorem slots_split (w : Way) (c : Dev nD) : (wholeR w c : sProp 𝕄) ⊢ iprop(slotRes (c, w, 0) ∗ slotRes (c, w, 1)) := by
  rw [slotRes_eq, slotRes_eq]
  unfold wholeR
  cases w
  · iintro ⟨%f, H⟩
    ihave H := (Entails.of_eq ((Idealize.ShloMosaic.Ring.pointsTo_blocks (ℓ := (c : Thread nD τ).loc cc0_scratch2) slotSet slotSet_disjoint slotSet_cover f).trans (bigSep_two _))) $$ H
    icases H with ⟨H0, H1⟩
    isplitl [H0]; · iexists f; iexact H0
    iexists f; iexact H1
  · iintro ⟨%f, H⟩
    ihave H := (Entails.of_eq ((Idealize.ShloMosaic.Ring.pointsTo_blocks (ℓ := (c : Thread nD τ).loc cc0_scratch3) slotSet slotSet_disjoint slotSet_cover f).trans (bigSep_two _))) $$ H
    icases H with ⟨H0, H1⟩
    isplitl [H0]; · iexists f; iexact H0
    iexists f; iexact H1

/-- Two slots are the receive buffer. -/
theorem slots_join (w : Way) (c : Dev nD) : iprop(slotRes (c, w, 0) ∗ slotRes (c, w, 1)) ⊢ (wholeR w c : sProp 𝕄) := by
  rw [slotRes_eq, slotRes_eq]
  unfold wholeR
  cases w
  · iintro ⟨H0, %f, H1⟩
    iapply (Idealize.ShloMosaic.Ring.pointsTo_blocks_join_exists (ℓ := (c : Thread nD τ).loc cc0_scratch2) slotSet slotSet_disjoint slotSet_cover f)
    rw [bigSep_two]
    isplitl [H0]; · iexact H0
    iexists f; iexact H1
  · iintro ⟨H0, %f, H1⟩
    iapply (Idealize.ShloMosaic.Ring.pointsTo_blocks_join_exists (ℓ := (c : Thread nD τ).loc cc0_scratch3) slotSet slotSet_disjoint slotSet_cover f)
    rw [bigSep_two]
    isplitl [H0]; · iexact H0
    iexists f; iexact H1

/-! ## The result and its four quarters -/

/-- The elements of a quarter of the result. -/
def qSet (q : Fin 4) : Finset S512x8192.Idx := (Rect.unit (s := S512x8192) ![0, 2048 * q.val] S512x2048.size (inb_quarter q)).set

theorem qSet_disjoint (q q' : Fin 4) (h : q ≠ q') : Disjoint (qSet q) (qSet q') :=
  Idealize.ShloMosaic.Ring.lead_disjoint (s := S512x8192) 1 2048 (fun q : Fin 4 => ![0, 2048 * q.val]) S512x2048.size inb_quarter
    (fun q => rfl) rfl q q' h
theorem qSet_cover : Finset.univ.biUnion qSet = Finset.univ :=
  Idealize.ShloMosaic.Ring.lead_cover (s := S512x8192) 1 2048 (fun q : Fin 4 => ![0, 2048 * q.val]) S512x2048.size inb_quarter
    (fun q => rfl) (by decide) rfl (by decide) rfl

theorem outM_set (q : Fin 4) : (outM q).view.set = qSet q := View.set_slice_whole main_v1 _

theorem holds_outM (c : Dev nD) (q : Fin 4) (v : Vec F S512x2048 .f32) :
    (holds c (outM q) v : sProp 𝕄) = iprop(∃ f : Buf (Elt F) ((c : Thread nD τ).loc main_v1), ⌜(outM q).view.read (Elt F) f = v⌝
      ∗ (c : Thread nD τ).loc main_v1 ↦[qSet q]{fullShare} f) := by
  rw [← outM_set]; rfl

/-- The result array is four quarters. -/
theorem out_split (c : Dev nD) (f : Buf (Elt F) ((c : Thread nD τ).loc main_v1)) :
    ((c : Thread nD τ).loc main_v1 ↦{fullShare} f : sProp 𝕄)
      ⊢ iprop((∃ v, holds c (outM 0) v) ∗ (∃ v, holds c (outM 1) v) ∗ (∃ v, holds c (outM 2) v) ∗ (∃ v, holds c (outM 3) v)) := by
  have one : ∀ q : Fin 4, ((c : Thread nD τ).loc main_v1 ↦[qSet q]{fullShare} f : sProp 𝕄) ⊢ iprop(∃ v, holds c (outM q) v) := fun q => by
    iintro H
    iexists ((outM q).view.read (Elt F) f)
    rw [holds_outM]
    iexists f
    isplitr; · ipureintro; rfl
    iexact H
  iintro H
  ihave H := (Entails.of_eq ((Idealize.ShloMosaic.Ring.pointsTo_blocks (ℓ := (c : Thread nD τ).loc main_v1) qSet qSet_disjoint qSet_cover f).trans (bigSep_four _))) $$ H
  icases H with ⟨H0, H1, H2, H3⟩
  isplitl [H0]; · iapply (one 0); iexact H0
  isplitl [H1]; · iapply (one 1); iexact H1
  isplitl [H2]; · iapply (one 2); iexact H2
  iapply (one 3); iexact H3

/-- The contents of a result array whose quarters are what the passes wrote. -/
def OutOK (c : Dev nD) (g : Buf (Elt F) ((c : Thread nD τ).loc main_v1)) : Prop :=
  ∀ (w : Way) (jq : Fin 2), (outM (quarter w jq)).view.read (Elt F) g = res m w c jq

/-- Four finished quarters are the finished result array. -/
theorem out_join (c : Dev nD) :
    iprop((holds c (outM (quarter .R 0)) (res m .R c 0) ∗ holds c (outM (quarter .R 1)) (res m .R c 1))
        ∗ (holds c (outM (quarter .L 0)) (res m .L c 0) ∗ holds c (outM (quarter .L 1)) (res m .L c 1)))
      ⊢ (iprop(∃ g, ⌜OutOK m c g⌝ ∗ (c : Thread nD τ).loc main_v1 ↦{fullShare} g) : sProp 𝕄) := by
  simp only [holds_outM]
  iintro ⟨⟨⟨%f0, %h0, H0⟩, %f1, %h1, H1⟩, ⟨%f2, %h2, H2⟩, %f3, %h3, H3⟩
  have hj := pointsTo_biUnion_join (Ix := ℕ) (Name := ℕ) (U := UU) (Lvl := ℕ) (q := fullShare) (ℓ := (c : Thread nD τ).loc main_v1) Finset.univ qSet ![f0, f1, f2, f3] f0 (fun b _ b' _ h => qSet_disjoint b b' h)
  rw [bigSep_four, qSet_cover] at hj
  ihave H := hj $$ [H0 H1 H2 H3]
  · isplitl [H0]; · iexact H0
    isplitl [H1]; · iexact H1
    isplitl [H2]; · iexact H2
    iexact H3
  icases H with ⟨%g, %hg, H⟩
  iexists g
  isplitr
  · ipureintro
    have e : ∀ q : Fin 4, (outM q).view.read (Elt F) g = (outM q).view.read (Elt F) (![f0, f1, f2, f3] q) := fun q =>
      View.read_congr fun i hi => hg q (Finset.mem_univ q) i (by rw [← outM_set]; exact hi)
    intro w jq
    cases w <;> fin_cases jq
    · exact (e 0).trans h0
    · exact (e 1).trans h1
    · exact (e 2).trans h2
    · exact (e 3).trans h3
  iexact H

end Cert.KernelIdeal.Ring

end
-- ==== Proof.Deal.lean ====
/-
  What each device gets at the launch: the tokens, minted by the device whose cell or slot they belong to, go to the device
  that uses them, one step round a ring; the credits of what a neighbour owes come to the device that waits.
-/
module

public import proofs.«01_k».proof.Proof.Split

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The launch credit -/

/-- What all devices owe on a ring, dealt to the waiting device: a credit token per arrival and one per unit of credit. -/
theorem Os_creds (w : Way) (c : Dev nD) :
    (Pipeline.launchCred (fun d => Os w d 0 0) c : sProp 𝕄)
      ⊢ iprop((bigSep (Finset.Ico 0 14) fun j => cred (tallyAt (cell c (.rcv w (par j))) j N))
          ∗ bigSep (Finset.Ico 0 12) fun i => cred (tallyAt (cell c (.crd w)) i 1)) := by
  unfold Os
  rw [Pipeline.launchCred_add, Pipeline.launchCred_sum, Pipeline.launchCred_sum]
  exact BI.sep_mono
    (bigSep_mono fun j _ => Pipeline.launchCred_tallyAt (ksem (.rcv w (par j))) (dst w) (src w) (dst_src w) (src_dst w) j N c)
    (bigSep_mono fun i _ => Pipeline.launchCred_tallyAt (ksem (.crd w)) (src w) (dst w) (src_dst w) (dst_src w) i 1 c)

theorem bar_creds (c : Dev nD) : iprop(cred (tallyAt (cell c .bar) 0 1) ∗ cred (tallyAt (cell c .bar) 0 1)) ⊢ (cred (tallyAt (cell c .bar) 0 2) : sProp 𝕄) := by
  have h : (tallyAt (cell c .bar) 0 2 : CellTallies nD τ sig ℕ) = tallyAt (cell c .bar) 0 1 + tallyAt (cell c .bar) 0 1 := by rw [tallyAt_add]
  rw [h]
  exact (cred_add _ _).2

/-- The credit tokens of one ring on a device. -/
def Creds (w : Way) (c : Dev nD) : sProp 𝕄 :=
  iprop((bigSep (Finset.Ico 0 14) fun j => cred (tallyAt (cell c (.rcv w (par j))) j N))
    ∗ bigSep (Finset.Ico 0 12) fun i => cred (tallyAt (cell c (.crd w)) i 1))

/-- A device's launch credit: both units of its barrier, and both rings' tokens. -/
theorem creds (c : Dev nD) :
    (Pipeline.launchCred O₀ c : sProp 𝕄) ⊢ iprop(cred (tallyAt (cell c .bar) 0 2) ∗ Creds .R c ∗ Creds .L c) := by
  have e : (O₀ : Dev nD → CellTallies nD τ sig ℕ)
      = fun d => (fun d => (fun d => Os .R d 0 0 + Os .L d 0 0) d + tallyAt (cell (src .L d) .bar) 0 1) d + tallyAt (cell (src .R d) .bar) 0 1 := rfl
  rw [e, Pipeline.launchCred_add (fun d => Os .R d 0 0 + Os .L d 0 0 + tallyAt (cell (src .L d) .bar) 0 1),
    Pipeline.launchCred_add (fun d => Os .R d 0 0 + Os .L d 0 0), Pipeline.launchCred_add]
  have hR := Pipeline.launchCred_tallyAt (τ := τ) (Val := Elt F) (Name := ℕ) (U := UU) (Lvl := ℕ) (ksem .bar) (src .R) (dst .R) (src_dst .R) (dst_src .R) 0 1 c
  have hL := Pipeline.launchCred_tallyAt (τ := τ) (Val := Elt F) (Name := ℕ) (U := UU) (Lvl := ℕ) (ksem .bar) (src .L) (dst .L) (src_dst .L) (dst_src .L) 0 1 c
  unfold Creds
  iintro ⟨⟨⟨H1, H2⟩, H3⟩, H4⟩
  isplitl [H3 H4]
  · iapply (bar_creds c)
    isplitl [H3]; · iapply hL; iexact H3
    iapply hR; iexact H4
  isplitl [H1]; · iapply (Os_creds .R c); iexact H1
  iapply (Os_creds .L c); iexact H2

/-! ## Tokens over numbers -/

theorem bigSep_last (n : ℕ) (Φ : ℕ → sProp 𝕄) : bigSep (Finset.range (n + 1)) Φ = iprop(Φ n ∗ bigSep (Finset.range n) Φ) := by
  rw [Finset.range_add_one, bigSep_insert Finset.notMem_range_self]; rfl

/-- Two families numbered alike, as one family, its even members from the first and its odd ones from the second. -/
theorem interleave (Φ : Fin 2 → ℕ → sProp 𝕄) : ∀ n : ℕ,
    iprop(bigSep (Finset.range n) (Φ 0) ∗ bigSep (Finset.range n) (Φ 1)) ⊢ bigSep (Finset.range (2 * n)) fun j => Φ (par j) (j / 2)
  | 0 => by
    iintro -
    rw [Nat.mul_zero, Finset.range_zero, bigSep_empty]
    iempintro
  | n + 1 => by
    have h0 : par (2 * n) = 0 := Fin.ext (Nat.mul_mod_right 2 n)
    have h1 : par (2 * n + 1) = 1 := Fin.ext (by show (2 * n + 1) % 2 = 1; omega)
    have d0 : 2 * n / 2 = n := by omega
    have d1 : (2 * n + 1) / 2 = n := by omega
    rw [show 2 * (n + 1) = 2 * n + 1 + 1 from rfl, bigSep_last (F := F) n, bigSep_last (F := F) n, bigSep_last (F := F) (2 * n + 1), bigSep_last (F := F) (2 * n), h0, h1, d0, d1]
    iintro ⟨⟨H0, Hs0⟩, H1, Hs1⟩
    isplitl [H1]; · iexact H1
    isplitl [H0]; · iexact H0
    iapply (interleave Φ n)
    isplitl [Hs0]; · iexact Hs0
    iexact Hs1

/-! ## The tokens minted, and the tokens used -/

/-- The duty tokens of one cell, round by round. -/
def Mint (c : Dev nD) (k : Kd) : sProp 𝕄 := bigSep (Finset.range 14) fun r => bigSep (Finset.range 12) fun d => dutyTok ER (cell c k) r d
/-- The write tokens of one slot. -/
def MintW (s : Key) : sProp 𝕄 := bigSep (Finset.range 7) fun r => writeTok ES s (r + 1)

/-- A ring's tokens on the device they belong to. -/
def Own (w : Way) (c : Dev nD) : sProp 𝕄 :=
  iprop((bigSep (Finset.Ico 0 14) fun j => dutyTok ER (cell c (.snd w)) j 0)
    ∗ (bigSep (Finset.Ico 0 14) fun j => iprop(dutyTok ER (cell c (.rcv w (par j))) (j / 2) 0 ∗ writeTok ES (c, w, par j) (j / 2 + 1)))
    ∗ (bigSep (Finset.Ico 0 12) fun j => dutyTok ER (cell c (.crd w)) 0 j)
    ∗ (dutyTok ER (cell c (.out w)) 0 0 ∗ dutyTok ER (cell c (.out w)) 1 0)
    ∗ dutyTok ER (cell c .bar) 0 (wn w))
/-- A ring's tokens on the device that uses them. -/
def Use (w : Way) (c : Dev nD) : sProp 𝕄 :=
  iprop((bigSep (Finset.Ico 0 14) fun j => dutyTok ER (cell c (.snd w)) j 0)
    ∗ (bigSep (Finset.Ico 0 14) fun j => iprop(dutyTok ER (cell (dst w c) (.rcv w (par j))) (j / 2) 0 ∗ writeTok ES (dst w c, w, par j) (j / 2 + 1)))
    ∗ (bigSep (Finset.Ico 0 12) fun j => dutyTok ER (cell (src w c) (.crd w)) 0 j)
    ∗ (dutyTok ER (cell c (.out w)) 0 0 ∗ dutyTok ER (cell c (.out w)) 1 0)
    ∗ dutyTok ER (cell (src w c) .bar) 0 (wn w))

theorem use_toks (w : Way) (c : Dev nD) :
    (Use w c : sProp 𝕄) ⊢ iprop(Toks w c 0 ∗ (bigSep (Finset.Ico 0 12) fun j => dutyTok ER (cell (src w c) (.crd w)) 0 j)
      ∗ (dutyTok ER (cell c (.out w)) 0 0 ∗ dutyTok ER (cell c (.out w)) 1 0) ∗ dutyTok ER (cell (src w c) .bar) 0 (wn w)) := by
  unfold Use Toks
  rw [bigSep_sep' (Finset.Ico 0 14) (fun j => (dutyTok ER (cell c (.snd w)) j 0 : sProp 𝕄))]
  iintro ⟨H1, H2, H3, H4, H5⟩
  isplitl [H1 H2]
  · isplitl [H1]; · iexact H1
    iexact H2
  isplitl [H3]; · iexact H3
  isplitl [H4]; · iexact H4
  iexact H5

/-- The tokens go one step round the ring. -/
theorem around (w : Way) : (bigSep Finset.univ fun c => (Own w c : sProp 𝕄)) ⊢ bigSep Finset.univ fun c => Use w c := by
  unfold Own Use
  rw [bigSep_sep', bigSep_sep', bigSep_sep', bigSep_sep', bigSep_sep', bigSep_sep', bigSep_sep', bigSep_sep', bigSep_sep', bigSep_sep',
    bigSep_univ_equiv (ring w) (fun c => (bigSep (Finset.Ico 0 14) fun j => iprop(dutyTok ER (cell c (.rcv w (par j))) (j / 2) 0 ∗ writeTok ES (c, w, par j) (j / 2 + 1)) : sProp 𝕄)),
    bigSep_univ_equiv (ring w).symm (fun c => (bigSep (Finset.Ico 0 12) fun j => dutyTok ER (cell c (.crd w)) 0 j : sProp 𝕄)),
    bigSep_univ_equiv (ring w).symm (fun c => (dutyTok ER (cell c .bar) 0 (wn w) : sProp 𝕄))]
  exact Entails.of_eq rfl

/-- One token out of a cell's. -/
theorem mint_one (c : Dev nD) (k : Kd) {r : ℕ} (hr : r < 14) : (bigSep (Finset.range 12) fun d => (dutyTok ER (cell c k) r d : sProp 𝕄)) ⊢ dutyTok ER (cell c k) r 0 :=
  bigSep_elim (Finset.mem_range.mpr (by decide))

/-- The token of the only duty of each round, for the first `n` rounds. -/
theorem mint_rounds (c : Dev nD) (k : Kd) {n : ℕ} (hn : n ≤ 14) : (Mint c k : sProp 𝕄) ⊢ bigSep (Finset.range n) fun r => dutyTok ER (cell c k) r 0 := by
  have h : (bigSep (Finset.range 14) fun r => (dutyTok ER (cell c k) r 0 : sProp 𝕄)) ⊢ bigSep (Finset.range n) fun r => dutyTok ER (cell c k) r 0 :=
    bigSep_subset (Finset.range_mono hn)
  exact (bigSep_mono fun r hr => mint_one c k (Finset.mem_range.mp hr)).trans h

/-- The tokens of round 0. -/
theorem mint_first (c : Dev nD) (k : Kd) : (Mint c k : sProp 𝕄) ⊢ bigSep (Finset.range 12) fun d => dutyTok ER (cell c k) 0 d :=
  bigSep_elim (Finset.mem_range.mpr (by decide))

/-- A ring's tokens from its cells' and slots'. -/
theorem own_intro (w : Way) (c : Dev nD) :
    iprop(Mint c (.snd w) ∗ (Mint c (.rcv w 0) ∗ Mint c (.rcv w 1)) ∗ (MintW (c, w, 0) ∗ MintW (c, w, 1)) ∗ Mint c (.crd w) ∗ Mint c (.out w)
        ∗ dutyTok ER (cell c .bar) 0 (wn w)) ⊢ (Own w c : sProp 𝕄) := by
  have hs := mint_rounds (F := F) c (.snd w) (n := 14) le_rfl
  have h0 := mint_rounds (F := F) c (.rcv w 0) (n := 7) (by decide)
  have h1 := mint_rounds (F := F) c (.rcv w 1) (n := 7) (by decide)
  have ho := mint_rounds (F := F) c (.out w) (n := 2) (by decide)
  have hc := mint_first (F := F) c (.crd w)
  have hr := interleave (F := F) (fun p r => dutyTok ER (cell c (.rcv w p)) r 0) 7
  have hw := interleave (F := F) (fun p r => writeTok ES (c, w, p) (r + 1)) 7
  rw [bigSep_last (F := F) 1, bigSep_last (F := F) 0, Finset.range_zero, bigSep_empty] at ho
  unfold Own MintW
  rw [bigSep_sep' (Finset.Ico 0 14) (fun j => (dutyTok ER (cell c (.rcv w (par j))) (j / 2) 0 : sProp 𝕄)), ← Finset.range_eq_Ico, ← Finset.range_eq_Ico]
  iintro ⟨HS, ⟨H0, H1⟩, HW, HC, HO, HB⟩
  isplitl [HS]; · iapply hs; iexact HS
  isplitl [H0 H1 HW]
  · isplitl [H0 H1]
    · iapply hr
      isplitl [H0]; · iapply h0; iexact H0
      iapply h1; iexact H1
    iapply hw; iexact HW
  isplitl [HC]; · iapply hc; iexact HC
  isplitl [HO]
  · ihave HO := ho $$ HO
    icases HO with ⟨HO1, HO0, -⟩
    isplitl [HO0]; · iexact HO0
    iexact HO1
  iexact HB

end Cert.KernelIdeal.Ring

end
-- ==== Proof.Fund.lean ====
/-
  The launch: what is minted, how each device's semaphores become cells of the protocol, and what every device is dealt.
-/
module

public import proofs.«01_k».proof.Proof.Deal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The launch element -/

/-- A family over pairs, one first component after the other. -/
theorem bigSep_pairs {I J : Type} [DecidableEq I] [DecidableEq J] (t : Finset J) (Φ : I × J → sProp 𝕄) (s : Finset I) :
    bigSep (s ×ˢ t) Φ = bigSep s fun i => bigSep t fun j => Φ (i, j) := by
  induction s using Finset.cons_induction with
  | empty => rw [Finset.empty_product, bigSep_empty, bigSep_empty]
  | cons a s ha ih =>
    have hu : Finset.cons a s ha ×ˢ t = (t.map ⟨fun j => (a, j), fun j j' h => congrArg (fun x : I × J => x.2) h⟩) ∪ s ×ˢ t := by
      ext ⟨i, j⟩
      constructor
      · intro h
        obtain ⟨h1, h2⟩ := Finset.mem_product.mp h
        refine Finset.mem_union.mpr ?_
        rcases Finset.mem_cons.mp h1 with e | e
        · exact Or.inl (Finset.mem_map.mpr ⟨j, h2, Prod.ext e.symm rfl⟩)
        · exact Or.inr (Finset.mem_product.mpr ⟨e, h2⟩)
      · intro h
        refine Finset.mem_product.mpr ?_
        rcases Finset.mem_union.mp h with h | h
        · obtain ⟨j', hj, e⟩ := Finset.mem_map.mp h
          have e1 : a = i := congrArg (fun x : I × J => x.1) e
          have e2 : j' = j := congrArg (fun x : I × J => x.2) e
          exact ⟨Finset.mem_cons.mpr (Or.inl e1.symm), show j ∈ t from e2 ▸ hj⟩
        · exact ⟨Finset.mem_cons.mpr (Or.inr (Finset.mem_product.mp h).1), (Finset.mem_product.mp h).2⟩
    have hd : Disjoint (t.map ⟨fun j => (a, j), fun j j' h => congrArg (fun x : I × J => x.2) h⟩) (s ×ˢ t) := by
      rw [Finset.disjoint_left]
      rintro ⟨i, j⟩ h h'
      obtain ⟨j', -, e⟩ := Finset.mem_map.mp h
      have ei : a = i := congrArg (fun x : I × J => x.1) e
      rw [ei] at ha
      exact ha (Finset.mem_product.mp h').1
    rw [hu, bigSep_union hd, bigSep_map, ih, Finset.cons_eq_insert, bigSep_insert ha]
    rfl

theorem cell_injective : Function.Injective (fun x : Dev nD × Kd => cell x.1 x.2) := fun a b h =>
  Prod.ext (cell_inj h).1 (cell_inj h).2

/-- All cells. -/
def ringCells : Finset (GSem nD τ sig) := Finset.univ.map ⟨fun x : Dev nD × Kd => cell x.1 x.2, cell_injective⟩

theorem tok_injective : Function.Injective (fun x : (Dev nD × Kd) × ℕ × ℕ => (cell x.1.1 x.1.2, x.2)) := fun a b h =>
  Prod.ext (cell_injective (congrArg (fun x : GSem nD τ sig × ℕ × ℕ => x.1) h)) (congrArg (fun x : GSem nD τ sig × ℕ × ℕ => x.2) h)

/-- The duty tokens minted: for every cell, 12 in each of 14 rounds. -/
def ringToks : Finset (GSem nD τ sig × ℕ × ℕ) :=
  ((Finset.univ : Finset (Dev nD × Kd)) ×ˢ (Finset.range 14 ×ˢ Finset.range 12)).map ⟨_, tok_injective⟩

/-- What the launch mints: the pipeline's, the cells' and duties', the slots'. -/
def u₀ : UU :=
  (initOf (Pipeline.cells cfgs cellOf_inj) (Pipeline.launchToks cfgs cellOf_inj), (initOf ringCells ringToks, initSlots Finset.univ 7))

/-- What of it goes to device `c`: its cells' states and positions, its duty tokens, its slots' tokens; everyone knows the slots'
    invariants. -/
def G (c : Dev nD) : sProp 𝕄 :=
  iprop((∃ KS : Key → ℕ, bigSep Finset.univ fun s : Key => slotInv ES (KS s) s (slotRes s))
    ∗ (bigSep Finset.univ fun k : Kd => roundState ER (Rd m) (cell c k) 0)
    ∗ (bigSep Finset.univ fun k : Kd => atPos ER (cell c k) 0 ∅ 0)
    ∗ (bigSep Finset.univ fun k : Kd => reached ER (cell c k) 0)
    ∗ (bigSep Finset.univ fun k : Kd => Mint c k)
    ∗ (bigSep Finset.univ fun x : Way × Fin 2 => MintW (c, x))
    ∗ (bigSep Finset.univ fun x : Way × Fin 2 => readerAt ES (c, x) 0))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A persistent fact goes to every device. -/
theorem everyone {R : sProp 𝕄} [BI.Persistent R] : R ⊢ bigSep (Finset.univ : Finset (Dev nD)) fun _ => R :=
  BI.bigSep_of_persistent _ R

/-- The launch element dealt to the devices. -/
theorem fund_ring : BI.own ((EB : Emb UB 𝕄) (initOf ringCells ringToks, initSlots Finset.univ 7)) ⊢ (|={Set.univ}=> bigSep Finset.univ (G m) : sProp 𝕄) := by
  have hX (Φ : GSem nD τ sig → sProp 𝕄) : bigSep ringCells Φ = bigSep Finset.univ fun c : Dev nD => bigSep Finset.univ fun k : Kd => Φ (cell c k) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun k : Kd => Mint c k := by
    unfold ringToks; rw [bigSep_map, bigSep_pairs, bigSep_univ_prod]
    exact bigSep_congr fun c _ => bigSep_congr fun k _ => by unfold Mint; rw [bigSep_pairs]; rfl
  have hK (Φ : Key → sProp 𝕄) : bigSep Finset.univ Φ = bigSep Finset.univ fun c : Dev nD => bigSep Finset.univ fun x : Way × Fin 2 => Φ (c, x) :=
    bigSep_univ_prod Φ
  have hW : bigSep ((Finset.univ : Finset Key) ×ˢ Finset.range 7) (fun x => (writeTok ES x.1 (x.2 + 1) : sProp 𝕄))
      = bigSep Finset.univ fun c : Dev nD => bigSep Finset.univ fun x : Way × Fin 2 => MintW (c, x) := by
    rw [bigSep_pairs, bigSep_univ_prod]; rfl
  iintro H
  ihave H := (own_pair_emb (EB : Emb UB 𝕄) _ _) $$ H
  icases H with ⟨HX, HS⟩
  imod (Rounds.fund ER (Rd m) ringCells ringToks) $$ HX with ⟨Hst, Hr, Hat, Htok⟩
  imod (slots_init ES (Es := Set.univ) (Finset.univ : Finset Key) 7 (fun s => slotRes (F := F) s)) $$ HS with ⟨%KS, -, #Hinv, Hrd, Hw⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave Hrd := (Entails.of_eq (hK fun s => readerAt ES s 0)) $$ Hrd
  ihave Hw := (Entails.of_eq hW) $$ Hw
  unfold G; simp only [bigSep_sep']
  isplitr
  · iapply (everyone (F := F))
    iexists KS
    iexact Hinv
  isplitl [Hst]; · iexact Hst
  isplitl [Hat]; · iexact Hat
  isplitl [Hr]; · iexact Hr
  isplitl [Htok]; · iexact Htok
  isplitl [Hw]; · iexact Hw
  iexact Hrd

/-! ## The semaphores -/

theorem bigSep_Kd (Φ : Kd → sProp 𝕄) : bigSep Finset.univ Φ
    = iprop(Φ .bar ∗ Φ (.snd .R) ∗ Φ (.snd .L) ∗ Φ (.rcv .R 0) ∗ Φ (.rcv .R 1) ∗ Φ (.rcv .L 0) ∗ Φ (.rcv .L 1) ∗ Φ (.out .R) ∗ Φ (.out .L)
      ∗ Φ (.crd .R) ∗ Φ (.crd .L)) := by
  rw [bigSep_univ_eq_bigSepL allKd (by decide) nodup_allKd]; rfl

theorem bigSep_slots (Φ : Way × Fin 2 → sProp 𝕄) : bigSep Finset.univ Φ = iprop(Φ (.R, 0) ∗ Φ (.R, 1) ∗ Φ (.L, 0) ∗ Φ (.L, 1)) :=
  bigSep_univ_eq_bigSepL [(Way.R, (0 : Fin 2)), (.R, 1), (.L, 0), (.L, 1)] (by decide) (by decide) Φ

/-- The kernel's own semaphores. -/
abbrev osem : Fin 10 → SemLoc sig := fun
  | 0 => ksem (.snd .R) | 1 => ksem (.snd .L) | 2 => ksem (.rcv .R 0) | 3 => ksem (.rcv .R 1) | 4 => ksem (.rcv .L 0) | 5 => ksem (.rcv .L 1)
  | 6 => ksem (.out .R) | 7 => ksem (.out .L) | 8 => ksem (.crd .R) | 9 => ksem (.crd .L)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (cell c (.snd .R)) 0 ∗ semVal (cell c (.snd .L)) 0 ∗ semVal (cell c (.rcv .R 0)) 0 ∗ semVal (cell c (.rcv .R 1)) 0
      ∗ semVal (cell c (.rcv .L 0)) 0 ∗ semVal (cell c (.rcv .L 1)) 0 ∗ semVal (cell c (.out .R)) 0 ∗ semVal (cell c (.out .L)) 0
      ∗ semVal (cell c (.crd .R)) 0 ∗ semVal (cell c (.crd .L)) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- A device's semaphores at the start are its cells' counters at zero. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Kd => semVal (cell c k) 0 : sProp 𝕄) := by
  rw [ownSems0_eq, unscopedSems0_eq, bigSep_Kd]
  iintro ⟨H, HB⟩
  isplitl [HB]; · iexact HB
  iexact H

/-- A device's cells, invariants allocated. -/
def Alloc (c : Dev nD) : sProp 𝕄 :=
  iprop((∃ KS : Key → ℕ, bigSep Finset.univ fun s : Key => slotInv ES (KS s) s (slotRes s))
    ∗ (bigSep Finset.univ fun k : Kd => iprop(∃ κ : ℕ, cellInv ER (Rd m) κ (cell c k)))
    ∗ (bigSep Finset.univ fun k : Kd => atPos ER (cell c k) 0 ∅ 0)
    ∗ (bigSep Finset.univ fun k : Kd => reached ER (cell c k) 0)
    ∗ (bigSep Finset.univ fun k : Kd => Mint c k)
    ∗ (bigSep Finset.univ fun x : Way × Fin 2 => MintW (c, x))
    ∗ (bigSep Finset.univ fun x : Way × Fin 2 => readerAt ES (c, x) 0))

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> Alloc m c := by
  have ha : iprop((bigSep Finset.univ fun k : Kd => semVal (cell c k) 0) ∗ bigSep Finset.univ fun k : Kd => roundState ER (Rd m) (cell c k) 0)
      ⊢ (|={Set.univ}=> bigSep Finset.univ fun k : Kd => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  have hs := sems0_eq (F := F) c
  unfold G Alloc
  iintro ⟨Hos, Hus, HS, Hst, Hrest⟩
  ihave Hv := hs $$ [Hos Hus]
  · isplitl [Hos] <;> iassumption
  imod ha $$ [Hv Hst] with Hinv
  · isplitl [Hv] <;> iassumption
  imodintro
  isplitl [HS]; · iexact HS
  isplitl [Hinv]; · iexact Hinv
  iexact Hrest

/-! ## Dealing -/

/-- A ring's positions on a device, and its slots'. -/
def Pos (w : Way) (c : Dev nD) : sProp 𝕄 :=
  iprop((atPos ER (cell c (.snd w)) 0 ∅ 0 ∗ atPos ER (cell c (.rcv w 0)) 0 ∅ 0 ∗ atPos ER (cell c (.rcv w 1)) 0 ∅ 0
      ∗ atPos ER (cell c (.out w)) 0 ∅ 0 ∗ atPos ER (cell c (.crd w)) 0 ∅ 0)
    ∗ readerAt ES (c, w, 0) 0 ∗ readerAt ES (c, w, 1) 0)

theorem bar_toks (c : Dev nD) : (Mint c .bar : sProp 𝕄) ⊢ iprop(dutyTok ER (cell c .bar) 0 (wn .R) ∗ dutyTok ER (cell c .bar) 0 (wn .L)) := by
  have h : (bigSep (Finset.range 12) fun d => (dutyTok ER (cell c .bar) 0 d : sProp 𝕄)) ⊢ bigSep (Finset.range 2) fun d => dutyTok ER (cell c .bar) 0 d :=
    bigSep_subset (Finset.range_mono (by decide))
  have h2 := (mint_first (F := F) c .bar).trans h
  rw [bigSep_last (F := F) 1, bigSep_last (F := F) 0] at h2
  iintro H
  ihave H := h2 $$ H
  icases H with ⟨H1, H0, -⟩
  isplitl [H0]; · iexact H0
  iexact H1

/-- What a device's allotment comes to, ring by ring. -/
theorem own_deal (c : Dev nD) :
    iprop((bigSep Finset.univ fun k : Kd => atPos ER (cell c k) 0 ∅ 0)
      ∗ (bigSep Finset.univ fun k : Kd => Mint c k)
      ∗ (bigSep Finset.univ fun x : Way × Fin 2 => MintW (c, x))
      ∗ (bigSep Finset.univ fun x : Way × Fin 2 => readerAt ES (c, x) 0))
    ⊢ (iprop((atPos ER (cell c .bar) 0 ∅ 0 ∗ Pos .R c ∗ Pos .L c) ∗ Own .R c ∗ Own .L c) : sProp 𝕄) := by
  have hb := bar_toks (F := F) c
  have oR := own_intro (F := F) .R c
  have oL := own_intro (F := F) .L c
  rw [bigSep_Kd, bigSep_Kd, bigSep_slots, bigSep_slots]
  unfold Pos
  iintro ⟨⟨A, AsR, AsL, ArR0, ArR1, ArL0, ArL1, AoR, AoL, AcR, AcL⟩, ⟨T, TsR, TsL, TrR0, TrR1, TrL0, TrL1, ToR, ToL, TcR, TcL⟩, ⟨WR0, WR1, WL0, WL1⟩, RR0, RR1, RL0, RL1⟩
  ihave T := hb $$ T
  icases T with ⟨TbR, TbL⟩
  isplitl [A AsR AsL ArR0 ArR1 ArL0 ArL1 AoR AoL AcR AcL RR0 RR1 RL0 RL1]
  · isplitl [A]; · iexact A
    isplitl [AsR ArR0 ArR1 AoR AcR RR0 RR1]
    · isplitl [AsR ArR0 ArR1 AoR AcR]
      · isplitl [AsR]; · iexact AsR
        isplitl [ArR0]; · iexact ArR0
        isplitl [ArR1]; · iexact ArR1
        isplitl [AoR]; · iexact AoR
        iexact AcR
      isplitl [RR0]; · iexact RR0
      iexact RR1
    isplitl [AsL ArL0 ArL1 AoL AcL]
    · isplitl [AsL]; · iexact AsL
      isplitl [ArL0]; · iexact ArL0
      isplitl [ArL1]; · iexact ArL1
      isplitl [AoL]; · iexact AoL
      iexact AcL
    isplitl [RL0]; · iexact RL0
    iexact RL1
  isplitl [TsR TrR0 TrR1 ToR TcR TbR WR0 WR1]
  · iapply oR
    isplitl [TsR]; · iexact TsR
    isplitl [TrR0 TrR1]
    · isplitl [TrR0]; · iexact TrR0
      iexact TrR1
    isplitl [WR0 WR1]
    · isplitl [WR0]; · iexact WR0
      iexact WR1
    isplitl [TcR]; · iexact TcR
    isplitl [ToR]; · iexact ToR
    iexact TbR
  · iapply oL
    isplitl [TsL]; · iexact TsL
    isplitl [TrL0 TrL1]
    · isplitl [TrL0]; · iexact TrL0
      iexact TrL1
    isplitl [WL0 WL1]
    · isplitl [WL0]; · iexact WL0
      iexact WL1
    isplitl [TcL]; · iexact TcL
    isplitl [ToL]; · iexact ToL
    iexact TbL

/-- What everybody knows, but for the levels. -/
def recs₀ (K : Dev nD × Kd → ℕ) (KS : Key → ℕ) : sProp 𝕄 :=
  iprop((bigSep Finset.univ fun x : Dev nD × Kd => cellInv ER (Rd m) (K x) (cell x.1 x.2))
    ∗ (bigSep Finset.univ fun x : Dev nD × Kd => reached ER (cell x.1 x.2) 0)
    ∗ (bigSep Finset.univ fun s : Key => slotInv ES (KS s) s (slotRes s)))

instance recs₀_persistent (K : Dev nD × Kd → ℕ) (KS : Key → ℕ) : BI.Persistent (recs₀ m K KS) := by unfold recs₀; infer_instance

/-- What a device has after the deal. -/
def Lin (c : Dev nD) : sProp 𝕄 := iprop((atPos ER (cell c .bar) 0 ∅ 0 ∗ Pos .R c ∗ Pos .L c) ∗ Use .R c ∗ Use .L c)
def G' (c : Dev nD) : sProp 𝕄 := iprop(∃ (K : Dev nD × Kd → ℕ) (KS : Key → ℕ), recs₀ m K KS ∗ Lin c)

theorem deal : (bigSep Finset.univ fun c : Dev nD => iprop((atPos ER (cell c .bar) 0 ∅ 0 ∗ Pos .R c ∗ Pos .L c) ∗ Own .R c ∗ Own .L c))
    ⊢ (bigSep Finset.univ fun c : Dev nD => Lin c : sProp 𝕄) := by
  have aR := around (F := F) .R
  have aL := around (F := F) .L
  unfold Lin
  rw [bigSep_sep' Finset.univ _ (fun c : Dev nD => iprop(Own .R c ∗ Own .L c)), bigSep_sep' Finset.univ (fun c : Dev nD => Own .R c),
    bigSep_sep' Finset.univ _ (fun c : Dev nD => iprop(Use .R c ∗ Use .L c)), bigSep_sep' Finset.univ (fun c : Dev nD => Use .R c)]
  exact sep_mono_right (BI.sep_mono aR aL)

theorem regroup : (bigSep Finset.univ fun c : Dev nD => Alloc m c) ⊢ bigSep Finset.univ (G' m) := by
  have hd : iprop((bigSep Finset.univ fun c : Dev nD => bigSep Finset.univ fun k : Kd => (atPos ER (cell c k) 0 ∅ 0 : sProp 𝕄))
      ∗ (bigSep Finset.univ fun c : Dev nD => bigSep Finset.univ fun k : Kd => Mint c k)
      ∗ (bigSep Finset.univ fun c : Dev nD => bigSep Finset.univ fun x : Way × Fin 2 => MintW (c, x))
      ∗ (bigSep Finset.univ fun c : Dev nD => bigSep Finset.univ fun x : Way × Fin 2 => readerAt ES (c, x) 0))
      ⊢ bigSep Finset.univ fun c : Dev nD => Lin c := by
    rw [← bigSep_sep', ← bigSep_sep', ← bigSep_sep']
    exact (bigSep_mono fun c _ => own_deal c).trans deal
  have hS : (bigSep Finset.univ fun _ : Dev nD => iprop(∃ KS : Key → ℕ, bigSep Finset.univ fun s : Key => slotInv ES (KS s) s (slotRes s)))
      ⊢ (iprop(∃ KS : Key → ℕ, bigSep Finset.univ fun s : Key => slotInv ES (KS s) s (slotRes s)) : sProp 𝕄) :=
    bigSep_elim (Finset.mem_univ (0 : Dev nD))
  unfold Alloc
  rw [bigSep_sep', bigSep_sep', bigSep_sep', bigSep_sep', bigSep_sep', bigSep_sep',
    ← bigSep_univ_prod (fun x : Dev nD × Kd => iprop(∃ κ : ℕ, cellInv ER (Rd m) κ (cell x.1 x.2))),
    ← bigSep_univ_prod (fun x : Dev nD × Kd => (reached ER (cell x.1 x.2) 0 : sProp 𝕄))]
  iintro ⟨HS, HI, Hat, #HR, Hm, Hw, Hr⟩
  ihave HS := hS $$ HS
  icases HS with ⟨%KS, #HS⟩
  ihave HK := (BI.bigSep_exists_pi Finset.univ (fun (x : Dev nD × Kd) (κ : ℕ) => (cellInv ER (Rd m) κ (cell x.1 x.2) : sProp 𝕄))) $$ HI
  icases HK with ⟨%K, #HI⟩
  ihave HL := hd $$ [Hat Hm Hw Hr]
  · isplitl [Hat]; · iexact Hat
    isplitl [Hm]; · iexact Hm
    isplitl [Hw]; · iexact Hw
    iexact Hr
  iapply (bigSep_with_persistent (R := recs₀ m K KS) (Φ := fun c : Dev nD => Lin c) fun c _ => by
    unfold G'; iintro ⟨HR, HL⟩
    iexists K, KS
    isplitl [HR]; · iexact HR
    iexact HL)
  isplitr
  · unfold recs₀
    isplitr; · iexact HI
    isplitr; · iexact HR
    iexact HS
  iexact HL

/-- The one global step of the launch: all devices' semaphores become cells, and the tokens are dealt. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring

end
-- ==== Proof.Launch.lean ====
/-
  The run: the body under the library's launch theorem. `run` is what the later files use: the kernel terminates, every semaphore
  counter ends at zero, the arguments are unchanged, and the result array holds what the rings computed.
-/
module

public import proofs.«01_k».proof.Proof.Fund
public import proofs.«01_k».proof.Proof.Gen.KernelIdeal.Points
public import Idealize.ShloMosaic.Lib.Pipeline.Quiescent

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

/-- The memory at the start: arbitrary contents and generator registers, every semaphore counter at zero. -/
def s₀ : MemSt nD τ sig (Elt F) := ⟨m, fun _ => 0, ρ⟩

/-! ## The body's pre- and postcondition -/

/-- Before the body: what everybody knows, the barrier's position and credit, both rings' resources. -/
def Φ₀ (c : Dev nD) : sProp 𝕄 :=
  iprop(∃ (K : Dev nD × Kd → ℕ) (KS : Key → ℕ), recs m K KS ∗ (atPos ER (cell c .bar) 0 ∅ 0 ∗ cred (tallyAt (cell c .bar) 0 2)) ∗ Ring0 .R c ∗ Ring0 .L c)
/-- After the body: every semaphore at zero, the buffers, the finished quarters of the result. -/
def Φ₁ (c : Dev nD) : sProp 𝕄 := iprop(semVal (cell c .bar) 0 ∗ Ring1 m .R c ∗ Ring1 m .L c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xst m c
    | ⟨1, _⟩ => wst m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (xst m c) ∗ stg c cc0_stg1_0 (wst m c))

theorem before_x (c : Dev nD) (d) : (dats m ρ 0 c).before (0 : Fin 2) t0_0 d = xst m c := by
  unfold Dat.before; rw [if_pos (fetch0_0 t0_0)]; rfl
theorem before_w (c : Dev nD) (d) : (dats m ρ 0 c).before (1 : Fin 2) t0_0 d = wst m c := by
  unfold Dat.before; rw [if_pos (fetch0_1 t0_0)]; rfl

/-- The body, from its precondition to its postcondition. -/
theorem sound_body (c : Dev nD) : bodyPre m ρ c ⊢ Wp c bodyP (fun _ => bodyPost m ρ c) := by
  unfold bodyPre
  simp only [before_x, before_w]
  unfold Φ₀ Dat.owesAt Pipeline.owesWithin
  iintro ⟨⟨%K, %KS, HR, HB, HRR, HRL⟩, ⟨%W, -, HO⟩, ⟨%d, %f, %hf, Hx⟩, ⟨%d', %g, %hg, Hw⟩⟩
  subst hf; subst hg
  iapply (wp_body m K KS c (fun _ => bodyPost m ρ c))
  isplitl [HR]; · iexact HR
  isplitl [HO]; · unfold ow; iexists W; iexact HO
  isplitl [Hx]; · iexact Hx
  isplitl [Hw]; · iexact Hw
  isplitl [HB]; · iexact HB
  isplitl [HRR]; · iexact HRR
  isplitl [HRL]; · iexact HRL
  unfold ow bodyPost Φ₁ Dat.owesAt Pipeline.owesWithin
  iintro ⟨⟨%W', HO⟩, Hx, Hw, HB, HRR, HRL⟩
  isplitl [HB HRR HRL]
  · isplitl [HB]; · iexact HB
    isplitl [HRR]; · iexact HRR
    iexact HRL
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 20000 in
/-- The library's obligation for the body on device `c`. -/
theorem body_obligation (c : Dev nD) : BodyObligation (dats (F := F) m ρ 0 c) (defs₀ (F := F)) 𝒱₀ 0 Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11) (fun _ => bodyPost m ρ c)
  rw [body_eq]
  exact sound_body m ρ c

/-! ## Entering and leaving the call -/

/-- What a device enters the call with, the call's own buffers apart: half of it per ring. -/
def Half (w : Way) (c : Dev nD) : sProp 𝕄 :=
  iprop((Pos w c ∗ Use w c) ∗ Creds w c ∗ (∃ v, holds c (outM (quarter w 0)) v) ∗ (∃ v, holds c (outM (quarter w 1)) v))
def start (c : Dev nD) : sProp 𝕄 :=
  iprop(∃ (K : Dev nD × Kd → ℕ) (KS : Key → ℕ), recs m K KS ∗ (atPos ER (cell c .bar) 0 ∅ 0 ∗ cred (tallyAt (cell c .bar) 0 2)) ∗ Half .R c ∗ Half .L c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hu : (Pipeline.unscopedRestP Pipeline.Prefetch.none cfg0.spec c (fun b => m ((c : Thread nD τ).loc b)) : sProp 𝕄)
      ⊢ (c : Thread nD τ).loc main_v1 ↦{fullShare} m ((c : Thread nD τ).loc main_v1) :=
    Entails.of_eq ((Pipeline.unscopedRestP_none cfg0.spec c _).trans (unscopedRest0_eq c _))
  have ho := out_split (F := F) c (m ((c : Thread nD τ).loc main_v1))
  have hc := creds (F := F) c
  unfold G' start Half Lin recs recs₀
  iintro ⟨Hu, #Hlev, Hcr, -, ⟨%K, %KS, ⟨#HI, #HRe, #HS⟩, ⟨HB, HPR, HPL⟩, HUR, HUL⟩⟩
  ihave Hu := hu $$ Hu
  ihave Hu := ho $$ Hu
  icases Hu with ⟨Q0, Q1, Q2, Q3⟩
  ihave Hcr := hc $$ Hcr
  icases Hcr with ⟨CB, CR, CL⟩
  imodintro
  isplitl
  · iexists K, KS
    isplitr
    · isplitr; · iexact HI
      isplitr; · iexact HRe
      isplitr; · iexact HS
      iexact Hlev
    isplitl [HB CB]
    · isplitl [HB]; · iexact HB
      iexact CB
    isplitl [HPR HUR CR Q0 Q1]
    · isplitl [HPR HUR]
      · isplitl [HPR]; · iexact HPR
        iexact HUR
      isplitl [CR]; · iexact CR
      isplitl [Q0]; · iexact Q0
      iexact Q1
    isplitl [HPL HUL]
    · isplitl [HPL]; · iexact HPL
      iexact HUL
    isplitl [CL]; · iexact CL
    isplitl [Q2]; · iexact Q2
    iexact Q3
  · iempintro

/-- A ring's half, with its send buffer and its receive buffer, is what the ring starts from. -/
theorem ring0_intro (w : Way) (c : Dev nD) : iprop(Half w c ∗ anyB w c ∗ wholeR w c) ⊢ (Ring0 w c : sProp 𝕄) := by
  have hs := slots_split (F := F) w c
  have hu := use_toks (F := F) w c
  unfold Half Pos Creds Ring0 Arr OutPre
  iintro ⟨⟨⟨⟨⟨As, Ar0, Ar1, Ao, Ac⟩, R0, R1⟩, HU⟩, ⟨CN, CC⟩, Q0, Q1⟩, HB, HW⟩
  ihave HW := hs $$ HW
  ihave HU := hu $$ HU
  icases HU with ⟨HT, HC, ⟨HO0, HO1⟩, HBt⟩
  isplitl [HB]; · iexact HB
  isplitl [HW]; · iexact HW
  isplitl [As HT Ar0 Ar1 CN]
  · isplitl [As]; · iexact As
    isplitl [HT]; · iexact HT
    isplitl [Ar0]; · iexact Ar0
    isplitl [Ar1]; · iexact Ar1
    iexact CN
  isplitl [HC R0 R1]
  · isplitl [HC]; · iexact HC
    isplitl [R0]; · iexact R0
    iexact R1
  isplitl [Ac CC]
  · isplitl [Ac]; · iexact Ac
    iexact CC
  isplitl [Ao HO0 HO1 Q0 Q1]
  · isplitl [Ao]; · iexact Ao
    isplitl [HO0 Q0]
    · isplitl [HO0]; · iexact HO0
      iexact Q0
    isplitl [HO1]; · iexact HO1
    iexact Q1
  iexact HBt

theorem anyB_of (c : Dev nD) (f) : ((c : Thread nD τ).loc cc0_scratch0 ↦{fullShare} f) ⊢ (anyB .R c : sProp 𝕄) := by
  show _ ⊢ iprop(∃ v, owns (c : Thread nD τ) (Memref.whole cc0_scratch0) fullShare v)
  simp only [owns_whole_eq]
  iintro H
  iexists f, f
  isplitr; · ipureintro; rfl
  iexact H
theorem anyB_of' (c : Dev nD) (f) : ((c : Thread nD τ).loc cc0_scratch1 ↦{fullShare} f) ⊢ (anyB .L c : sProp 𝕄) := by
  show _ ⊢ iprop(∃ v, owns (c : Thread nD τ) (Memref.whole cc0_scratch1) fullShare v)
  simp only [owns_whole_eq]
  iintro H
  iexists f, f
  isplitr; · ipureintro; rfl
  iexact H
theorem of_anyB (c : Dev nD) : (anyB .R c : sProp 𝕄) ⊢ iprop(∃ f, (c : Thread nD τ).loc cc0_scratch0 ↦{fullShare} f) := by
  show iprop(∃ v, owns (c : Thread nD τ) (Memref.whole cc0_scratch0) fullShare v) ⊢ _
  simp only [owns_whole_eq]
  iintro ⟨%v, %f, -, H⟩
  iexists f; iexact H
theorem of_anyB' (c : Dev nD) : (anyB .L c : sProp 𝕄) ⊢ iprop(∃ f, (c : Thread nD τ).loc cc0_scratch1 ↦{fullShare} f) := by
  show iprop(∃ v, owns (c : Thread nD τ) (Memref.whole cc0_scratch1) fullShare v) ⊢ _
  simp only [owns_whole_eq]
  iintro ⟨%v, %f, -, H⟩
  iexists f; iexact H

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have rR := ring0_intro (F := F) .R c
  have rL := ring0_intro (F := F) .L c
  rw [show (dats m ρ 0 c).Φ 0 = Φ₀ m c from rfl, scopedRest0_eq]
  unfold start Φ₀
  iintro ⟨⟨%K, %KS, HR, HB, HhR, HhL⟩, -, ⟨%f0, H0⟩, ⟨%f1, H1⟩, H2, H3⟩
  iexists K, KS
  isplitl [HR]; · iexact HR
  isplitl [HB]; · iexact HB
  isplitl [HhR H0 H2]
  · iapply rR
    isplitl [HhR]; · iexact HhR
    isplitl [H0]; · iapply (anyB_of c f0); iexact H0
    unfold wholeR; iexact H2
  iapply rL
  isplitl [HhL]; · iexact HhL
  isplitl [H1]; · iapply (anyB_of' c f1); iexact H1
  unfold wholeR; iexact H3

/-- What a device leaves the call with: its barrier semaphore at zero, and the finished result. -/
def Fin1 (c : Dev nD) : sProp 𝕄 :=
  iprop(unscopedSems0 c ∗ ∃ g, ⌜OutOK m c g⌝ ∗ (c : Thread nD τ).loc main_v1 ↦{fullShare} g)

theorem phi1_exit (c : Dev nD) :
    (dats m ρ 0 c).Φ (Fin.last cfg0.N) ⊢ iprop(Fin1 m c ∗ Pipeline.ownSems0 osem c ∗ Pipeline.scopedRest cfg0.spec c) := by
  have sR := slots_join (F := F) .R c
  have sL := slots_join (F := F) .L c
  have bR := of_anyB (F := F) c
  have bL := of_anyB' (F := F) c
  have oj := out_join m c
  rw [show (dats m ρ 0 c).Φ (Fin.last cfg0.N) = Φ₁ m c from rfl, scopedRest0_eq, ownSems0_eq]
  unfold Φ₁ Ring1 Fin1
  rw [unscopedSems0_eq]
  unfold wholeR at sR sL
  iintro ⟨HB, ⟨BR, SR, ⟨R1, R2, R3, R4, R5⟩, OR⟩, ⟨BL, SL, ⟨L1, L2, L3, L4, L5⟩, OL⟩⟩
  isplitl [HB OR OL]
  · isplitl [HB]; · iexact HB
    iapply oj
    isplitl [OR]; · iexact OR
    iexact OL
  isplitl [R1 R2 R3 R4 R5 L1 L2 L3 L4 L5]
  · isplitl [R1]; · iexact R1
    isplitl [L1]; · iexact L1
    isplitl [R2]; · iexact R2
    isplitl [R3]; · iexact R3
    isplitl [L2]; · iexact L2
    isplitl [L3]; · iexact L3
    isplitl [R4]; · iexact R4
    isplitl [L4]; · iexact L4
    isplitl [R5]; · iexact R5
    iexact L5
  isplitl [BR]; · iapply bR; iexact BR
  isplitl [BL]; · iapply bL; iexact BL
  isplitl [SR]; · iapply sR; iexact SR
  iapply sL; iexact SL

/-! ## The run -/

theorem waits (c : Dev nD) : (levAts L lv : sProp 𝕄) ⊢ Pipeline.cellsWaits cfgs (dats m ρ) 0 0 c :=
  Pipeline.cellsWaits_intro cfgs (dats m ρ) 0 0 c fun w s t => by
    have hl : ∀ q : SemLoc sig, kindOf q = none → lv ((c : Thread nD τ), q) 0 ≤ 0 := fun q h => by unfold lv; rw [h]
    have hO : Above 0 ((dats m ρ 0 c).owed t) := by
      rcases t with ⟨_ | _, ht⟩
      · exact (O₀_above c).mono (Nat.zero_le _)
      · exact Above.zero 0
    exact mayWait_of_above hO c _ (by decide) (hl _ (by fin_cases w <;> fin_cases s <;> decide))

theorem share_eq (c : Dev nD) (w : Fin cfg0.W) : (dats m ρ 0 c).share w = fullShare := by unfold Dat.share; split <;> rfl

/-- A result array that is held is the memory's. -/
theorem read_out (c : Dev nD) (s' : Phys nD τ sig (Elt F)) :
    iprop(Fin1 m c ∗ emp ∗ SI s') ⊢ (|={Set.univ}=> iprop(⌜(∀ sm : SemLoc sig, sm.isScoped .tc = false → s'.mem.sem ((c.tc : Thread nD τ), sm) = 0)
      ∧ OutOK m c (s'.mem.mem ((c : Thread nD τ).loc main_v1))⌝ ∗ SI s') : sProp 𝕄) := by
  have hs := tcUnscoped_read (Val := Elt F) (Ix := ℕ) (Name := ℕ) (U := UU) (Lvl := ℕ) c s'
  unfold Fin1
  iintro ⟨⟨Hu, ⟨%g, %hg, Hp⟩⟩, -, HSI⟩
  ihave %h := hs $$ [Hu HSI]
  · isplitl [Hu] <;> iassumption
  ihave %hp := (SI_pointsTo_agree (st := s') (q := fullShare) (I := Finset.univ) (f := g)) $$ [HSI Hp]
  · isplitl [HSI] <;> iassumption
  imodintro
  isplitr
  · ipureintro
    refine ⟨h, ?_⟩
    rw [Buf.eq_of_forall_mem_univ hp]; exact hg
  iexact HSI

def QC : PUnit × MemSt nD τ sig (Elt F) → Prop := fun r =>
  (∀ c : Dev nD, ∀ w : Fin cfg0.W, r.2.mem ((cfg0.win w).arr.view.loc (c : Thread nD τ)) = (dats m ρ 0 c).arrAt w cfg0.N)
    ∧ ∀ c : Dev nD, OutOK m c (r.2.mem ((c : Thread nD τ).loc main_v1))

set_option maxRecDepth 40000 in
/-- On eight devices, from any memory with zero counters, for any float values: every fair execution of the kernel terminates without
    fault; at the end every semaphore counter is zero, the arguments are as the call left them, and each result array holds what the
    two rings computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Fin1 m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ OutOK m c (s.mem ((c : Thread nD τ).loc main_v1)))
    (hY := read_out m)
    (hQ := fun _ h hs => ⟨⟨fun c w => (h c).1 w, fun c => (h c).2.2.2⟩, sem_eq_zero hs fun c => (h c).2.2.1⟩)

/-- The same, the arguments' arrays said plainly to be unchanged. -/
theorem run : θ_run defs (onTc (τ := τ) (main (F := F))) ⟨m, fun _ => 0, ρ⟩ (fun r =>
    (∀ c : Dev nD, OutOK m c (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨h.1.2 c, (h.1.1 c 0).trans ((dats m ρ 0 c).arrAt_in 0 rfl _),
    (h.1.1 c 1).trans ((dats m ρ 0 c).arrAt_in 1 rfl _)⟩, h.2⟩) (run_main m ρ)

end Cert.KernelIdeal.Ring

end
-- ==== Proof.Block.lean ====
/-
  What one step computes, over the extended reals: an element of a partial product is the sum of 512 products of elements of
  the two argument arrays of the device; an element of what a device sends is the sum of those over the devices the sum has
  passed so far.
-/
module

public import proofs.«01_k».proof.Proof.Launch
public import Idealize.ShloMosaic.Lib.Pointwise

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (m : (ℓ : Loc nD τ sig) → Buf (Elt Ideal) ℓ)

/-! ## Reading the argument arrays -/

/-- The first argument's block on device `d`, by row and column. -/
def xAt (d : Dev nD) (r : Fin 4096) (k : Fin 512) : EReal :=
  (m ((d : Thread nD τ).loc main_arg0) : S4096x512.Idx → Ideal .f32) (ix2 r k)
/-- The second argument's block on device `d`, by row and column. -/
def wAt (d : Dev nD) (k : Fin 512) (l : Fin 8192) : EReal :=
  (m ((d : Thread nD τ).loc main_arg1) : S512x8192.Idx → Ideal .f32) (ix2 k l)

/-- Row `r` of the block of rows `b`. -/
abbrev rowAt (b : Dev nD) (r : Fin 512) : Fin 4096 := ⟨512 * b.val + r.val, by have := b.isLt; have : nD = 8 := rfl; omega⟩
/-- Column `l` of the quarter `q`. -/
abbrev colAt (q : Fin 4) (l : Fin 2048) : Fin 8192 := ⟨2048 * q.val + l.val, by omega⟩

/-- The 512 rows at `512 b` of the staged block of the first argument. -/
theorem xRows_apply (d b : Dev nD) (off : Fin 2 → Nat) (h : ∀ a, off a + S512x512.size a ≤ S4096x512.size a)
    (ho : off = ![512 * b.val, 0]) (r k : Fin 512) :
    (xRows m d off h : S512x512.Idx → Ideal .f32) (ix2 r k) = xAt m d (rowAt b r) k := by
  subst ho
  unfold xAt
  show (m ((d : Thread nD τ).loc main_arg0) : S4096x512.Idx → Ideal .f32) _ = _
  refine congrArg _ (funext fun a => Fin.ext ?_)
  match a with
  | 0 =>
    show (win0_0.rect (0 : Fin 1)).off 0 + (win0_0.rect (0 : Fin 1)).stride 0 * (512 * b.val + 1 * r.val) = _
    rw [show (win0_0.rect (0 : Fin 1)).off 0 = 0 from rfl, show (win0_0.rect (0 : Fin 1)).stride 0 = 1 from rfl]
    simp
  | 1 =>
    show (win0_0.rect (0 : Fin 1)).off 1 + (win0_0.rect (0 : Fin 1)).stride 1 * (0 + 1 * k.val) = _
    rw [show (win0_0.rect (0 : Fin 1)).off 1 = 0 from rfl, show (win0_0.rect (0 : Fin 1)).stride 1 = 1 from rfl]
    simp

/-- A quarter of the columns of the staged block of the second argument. -/
theorem wCols_apply (d : Dev nD) (q : Fin 4) (k : Fin 512) (l : Fin 2048) :
    (wCols m d q : S512x2048.Idx → Ideal .f32) (ix2 k l) = wAt m d k (colAt q l) := by
  unfold wAt
  show (m ((d : Thread nD τ).loc main_arg1) : S512x8192.Idx → Ideal .f32) _ = _
  refine congrArg _ (funext fun a => Fin.ext ?_)
  match a with
  | 0 =>
    show (win0_1.rect (0 : Fin 1)).off 0 + (win0_1.rect (0 : Fin 1)).stride 0 * (0 + 1 * k.val) = _
    rw [show (win0_1.rect (0 : Fin 1)).off 0 = 0 from rfl, show (win0_1.rect (0 : Fin 1)).stride 0 = 1 from rfl]
    simp
  | 1 =>
    show (win0_1.rect (0 : Fin 1)).off 1 + (win0_1.rect (0 : Fin 1)).stride 1 * (2048 * q.val + 1 * l.val) = _
    rw [show (win0_1.rect (0 : Fin 1)).off 1 = 0 from rfl, show (win0_1.rect (0 : Fin 1)).stride 1 = 1 from rfl]
    simp

/-! ## A partial product -/

/-- An element of a product of 512 rows by a quarter of the columns. -/
theorem mm_apply (a : Vec Ideal S512x512 .f32) (b : Vec Ideal S512x2048 .f32) (r : Fin 512) (l : Fin 2048) :
    (mm a b : S512x2048.Idx → Ideal .f32) (ix2 r l)
      = ∑ k : Fin 512, ((a : S512x512.Idx → Ideal .f32) (ix2 r k) * (b : S512x2048.Idx → Ideal .f32) (ix2 k l) : EReal) := by
  unfold mm
  pointwise

/-- What device `d` contributes to an element of the product: 512 products. -/
def share (d : Dev nD) (r : Fin 4096) (l : Fin 8192) : EReal := ∑ k : Fin 512, xAt m d r k * wAt m d k l

/-- So does a product of the rows of block `b` by the quarter `q`. -/
theorem mm_share (d b : Dev nD) (q : Fin 4) (off : Fin 2 → Nat) (h : ∀ a, off a + S512x512.size a ≤ S4096x512.size a)
    (ho : off = ![512 * b.val, 0]) (r : Fin 512) (l : Fin 2048) :
    (mm (xRows m d off h) (wCols m d q) : S512x2048.Idx → Ideal .f32) (ix2 r l) = share m d (rowAt b r) (colAt q l) := by
  rw [mm_apply]
  exact Finset.sum_congr rfl fun k _ => congrArg₂ (· * ·) (xRows_apply m d b off h ho r k) (wCols_apply m d q k l)

/-! ## The sum round a ring -/

/-- The device that works on block `b` at step `t` of a pass: `t + 1` places downstream of `b`. -/
def worker (w : Way) (b : Dev nD) : ℕ → Dev nD
  | 0 => dst w b
  | t + 1 => dst w (worker w b t)

theorem src_worker (w : Way) (b : Dev nD) (t : ℕ) : src w (worker w b (t + 1)) = worker w b t := src_dst w _

/-- The rows that device multiplies at step `t` are those of block `b`. -/
theorem rowOff_worker (w : Way) (b : Dev nD) (t : Fin 7) : rowOff w (worker w b t.val) t = ![512 * b.val, 0] := by
  cases w <;> (unfold rowOff; simp only [k0_off1_eq, k0_off2_eq]; revert b t; decide)

/-- What the worker of block `b` sends at step `t` of a pass: the sum of the shares of the workers so far. -/
theorem val_apply (w : Way) (b : Dev nD) (jq : Fin 2) (r : Fin 512) (l : Fin 2048) (t : ℕ) (ht : t < 7) :
    (val m w (7 * jq.val + t) (worker w b t) : S512x2048.Idx → Ideal .f32) (ix2 r l)
      = ∑ s ∈ Finset.range (t + 1), share m (worker w b s) (rowAt b r) (colAt (quarter w jq) l) := by
  have hp : ∀ t, t < 7 → passOf (7 * jq.val + t) = jq := fun t ht => Fin.ext (by show (7 * jq.val + t) / 7 % 2 = _; omega)
  have hq : ∀ t (ht : t < 7), tOf (7 * jq.val + t) = ⟨t, ht⟩ := fun t ht => Fin.ext (by show (7 * jq.val + t) % 7 = t; omega)
  induction t with
  | zero =>
    rw [val_start m w _ _ (by omega), hp 0 ht, hq 0 ht]
    unfold putV
    rw [Finset.sum_range_one]
    refine Eq.trans ?_ (mm_share m (worker w b 0) b (quarter w jq) _ (rowOff_inb w _ _) (rowOff_worker w b ⟨0, ht⟩) r l)
    pointwise
    rfl
  | succ t ih =>
    rw [← Nat.add_assoc, val_step m w _ _ (by omega), Nat.add_assoc, hp (t + 1) ht, hq (t + 1) ht, Finset.sum_range_succ,
      src_worker, ← ih (by omega)]
    refine Eq.trans ?_ (congrArg (_ + ·) (mm_share m (worker w b (t + 1)) b (quarter w jq) _ (rowOff_inb w _ _) (rowOff_worker w b ⟨t + 1, ht⟩) r l))
    unfold putV
    pointwise
    rfl

/-- The workers of block `b` over the seven steps of a pass, and `b` itself, are all devices. -/
theorem sum_workers (w : Way) (b : Dev nD) (f : Dev nD → EReal) :
    (∑ s ∈ Finset.range 7, f (worker w b s)) + f b = ∑ d : Dev nD, f d := by
  have hb : Function.Bijective fun s : Fin 8 => worker w b s.val := by
    rw [Finite.injective_iff_bijective.symm]
    cases w <;> (revert b; decide)
  have h8 : worker w b 7 = b := by cases w <;> (revert b; decide)
  rw [← hb.sum_comp f, Fin.sum_univ_eq_sum_range (fun s => f (worker w b s)) 8, Finset.sum_range_succ _ 7, h8]

end Cert.KernelIdeal.Ring

end
-- ==== Proof.Result.lean ====
/-
  What the result array holds, over the extended reals: on each device an element is the activation of the sum, over all
  devices, of what they contribute to it.
-/
module

public import proofs.«01_k».proof.Proof.Block
public import Idealize.ShloMosaic.Lib.Pointwise

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (m : (ℓ : Loc nD τ sig) → Buf (Elt Ideal) ℓ)

/-- The activation of one number, as the kernel computes it. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * y * y * y)))

/-- The activation of a block is that of its elements. -/
theorem geluV_apply (y : FVec Ideal S512x2048 .f32) (r : Fin 512) (l : Fin 2048) :
    (geluV y : S512x2048.Idx → Ideal .f32) (ix2 r l) = gelu ((y : S512x2048.Idx → Ideal .f32) (ix2 r l)) := by
  unfold geluV gelu
  rfl

/-- An element of what a ring leaves on device `c` in one of its quarters. -/
theorem res_apply (w : Way) (c : Dev nD) (jq : Fin 2) (r : Fin 512) (l : Fin 2048) :
    (res m w c jq : S512x2048.Idx → Ideal .f32) (ix2 r l)
      = gelu (∑ d : Dev nD, share m d (rowAt c r) (colAt (quarter w jq) l)) := by
  have h8 : worker w c 6 = src w c := by cases w <;> (revert c; decide)
  rw [← sum_workers w c, ← val_apply m w c jq r l 6 (by decide), h8,
    ← mm_share m c c (quarter w jq) _ (k0_off3_inb c) (k0_off3_eq c) r l]
  unfold res putV
  refine Eq.trans ?_ (geluV_apply (addf (val m w (7 * jq.val + 6) (src w c)) (ownProd m w c jq)) r l)
  pointwise

/-- Each column lies in the quarter of one pass of one ring. -/
theorem col_quarter (l : Fin 8192) : ∃ (w : Way) (jq : Fin 2) (l' : Fin 2048), l = colAt (quarter w jq) l' := by
  have hl := l.isLt
  by_cases h : l.val < 4096
  · exact ⟨.R, ⟨l.val / 2048, by omega⟩, ⟨l.val % 2048, by omega⟩, Fin.ext (by show l.val = 2048 * (l.val / 2048) + l.val % 2048; omega)⟩
  · exact ⟨.L, ⟨l.val / 2048 - 2, by omega⟩, ⟨l.val % 2048, by omega⟩,
      Fin.ext (by show l.val = 2048 * (2 + (l.val / 2048 - 2)) + l.val % 2048; omega)⟩

/-- An element of a quarter of the result array. -/
theorem outM_apply (q : Fin 4) (g : (main_v1 : Ref sig .tc).ty.Contents (Elt Ideal)) (r : Fin 512) (l : Fin 2048) :
    ((outM q).view.read (Elt Ideal) g : S512x2048.Idx → Ideal .f32) (ix2 r l)
      = (g : S512x8192.Idx → Ideal .f32) (ix2 r (colAt q l)) := by
  show (g : S512x8192.Idx → Ideal .f32) _ = _
  refine congrArg _ (funext fun (a : Fin 2) => Fin.ext ?_)
  match a with
  | 0 => show 0 + 1 * r.val = r.val; omega
  | 1 => show 2048 * q.val + 1 * l.val = 2048 * q.val + l.val; omega

/-- A result array whose quarters are what the rings leave holds, at row `r` and column `l` of device `c`, the activation of
    the sum of all devices' contributions to row `512 c + r` and column `l`. -/
theorem out_apply (c : Dev nD) (g : (main_v1 : Ref sig .tc).ty.Contents (Elt Ideal)) (h : OutOK m c g) (r : Fin 512) (l : Fin 8192) :
    (g : S512x8192.Idx → Ideal .f32) (ix2 r l) = gelu (∑ d : Dev nD, share m d (rowAt c r) l) := by
  obtain ⟨w, jq, l', rfl⟩ := col_quarter l
  refine ((outM_apply (quarter w jq) g r l').symm.trans ?_).trans (res_apply m w c jq r l')
  rw [h w jq]

end Cert.KernelIdeal.Ring

end
-- ==== Proof.Plain.lean ====
/-
  What the reference computes, over the extended reals: an element of its result is the activation of an inner product of 4096
  terms, which is the sum over eight blocks of 512 terms.
-/
module

public import proofs.«01_k».proof.Proof.Gen.ReferenceIdeal.Run
public import Idealize.ShloMosaic.Lib.Pointwise
public import Idealize.ShloMosaic.Lib.Pipeline.ValueKit.Acc

@[expose] public section

noncomputable section

namespace Cert.ReferenceIdeal.Plain

open Cert.ReferenceIdeal Cert.ReferenceIdeal.Gen
open Idealize.ShloMosaic
open Idealize.ShloMosaic.TcCoe

/-- The whole product of the two arguments. -/
def dotR (x : FVec Ideal S4096x4096 .f32) (w : FVec Ideal S4096x8192 .f32) : FVec Ideal S4096x8192 .f32 :=
  Host.dotGeneral dot_S4096x4096_S4096x8192_S4096x8192_1_0_0_1_n_n none x w

/-- The reference's result as a function of its product. -/
def outR (y : FVec Ideal S4096x8192 .f32) : FVec Ideal S4096x8192 .f32 :=
  mulf (mulf (broadcastInDim S4096x8192 ![] bcast_S_S4096x8192 (constant S_ .f32 0x3F000000#32)) y)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf y (mulf (broadcastInDim S4096x8192 ![] bcast_S_S4096x8192 (constant S_ .f32 0x3D372713#32)) (mulf (mulf y y) y))))))

/-- An element of the product: the inner product of a row and a column, by blocks of 512 terms. -/
theorem dotR_apply (x : FVec Ideal S4096x4096 .f32) (w : FVec Ideal S4096x8192 .f32) (r : Fin 4096) (l : Fin 8192) :
    (dotR x w : S4096x8192.Idx → Ideal .f32) (ix2 r l)
      = ∑ d : Fin 8, ∑ k : Fin 512, ((x : S4096x4096.Idx → Ideal .f32) (ix2 r ⟨d.val * 512 + k.val, by omega⟩)
          * (w : S4096x8192.Idx → Ideal .f32) (ix2 ⟨d.val * 512 + k.val, by omega⟩ l) : EReal) := by
  unfold dotR
  rw [Fin.sum_mul_add_fin 8 512 (fun k : Fin 4096 => ((x : S4096x4096.Idx → Ideal .f32) (ix2 r k) * (w : S4096x8192.Idx → Ideal .f32) (ix2 k l) : EReal))]
  pointwise

/-- An element of the result: the activation of the product's element. -/
theorem outR_apply (y : FVec Ideal S4096x8192 .f32) (r : Fin 4096) (l : Fin 8192) :
    (outR y : S4096x8192.Idx → Ideal .f32) (ix2 r l)
      = (let t : EReal := (y : S4096x8192.Idx → Ideal .f32) (ix2 r l);
        (Ideal.ofBits .f32 0x3F000000#32 * t) * (Ideal.ofBits .f32 0x3F800000#32
          + Ideal.tanh (Ideal.ofBits .f32 0x3F4C422A#32 * (t + Ideal.ofBits .f32 0x3D372713#32 * (t * t * t))))) := by
  unfold outR
  pointwise

end Cert.ReferenceIdeal.Plain

end
-- ==== Proof.Equation.lean ====
/-
  The equation: if every device holds its blocks of the two arrays the reference is given, then what a device's result array
  holds is its block of rows of the reference's result.
-/
module

public import proofs.«01_k».proof.Proof.Result
public import proofs.«01_k».proof.Proof.Plain
public import Idealize.ShloMosaic.Lib.Layout

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

open Cert.ReferenceIdeal.Plain (dotR outR dotR_apply outR_apply)

variable (m : (ℓ : Loc nD τ sig) → Buf (Elt Ideal) ℓ)
  (x : FVec Ideal Cert.ReferenceIdeal.S4096x4096 .f32) (w : FVec Ideal Cert.ReferenceIdeal.S4096x8192 .f32)

/-- Device `d` holds columns `512 d …` of the first array and rows `512 d …` of the second. -/
def Holds : Prop := ∀ d : Dev nD,
  m ((d.tc : Thread nD τ).loc main_arg0) = Layout.block ⟨2, ![4096, 512]⟩ ⟨2, ![4096, 4096]⟩ 1 8 d x
  ∧ m ((d.tc : Thread nD τ).loc main_arg1) = Layout.block ⟨2, ![512, 8192]⟩ ⟨2, ![4096, 8192]⟩ 0 8 d w

variable {m x w}

/-- An element of the first argument's block is the array's, 512 columns per device on. -/
theorem xAt_eq (h : Holds m x w) (d : Dev nD) (r : Fin 4096) (k : Fin 512) :
    xAt m d r k = (x : Cert.ReferenceIdeal.S4096x4096.Idx → Ideal .f32)
      (ix2 r ⟨d.val * 512 + k.val, by have := d.isLt; have : nD = 8 := rfl; omega⟩) := by
  unfold xAt
  refine (congrFun (h d).1 (ix2 r k)).trans (congrArg (x : Cert.ReferenceIdeal.S4096x4096.Idx → Ideal .f32) (funext fun (a : Fin 2) => Fin.ext ?_))
  match a with
  | 0 => rfl
  | 1 => rfl

/-- An element of the second argument's block is the array's, 512 rows per device on. -/
theorem wAt_eq (h : Holds m x w) (d : Dev nD) (k : Fin 512) (l : Fin 8192) :
    wAt m d k l = (w : Cert.ReferenceIdeal.S4096x8192.Idx → Ideal .f32)
      (ix2 ⟨d.val * 512 + k.val, by have := d.isLt; have : nD = 8 := rfl; omega⟩ l) := by
  unfold wAt
  refine (congrFun (h d).2 (ix2 k l)).trans (congrArg (w : Cert.ReferenceIdeal.S4096x8192.Idx → Ideal .f32) (funext fun (a : Fin 2) => Fin.ext ?_))
  match a with
  | 0 => rfl
  | 1 => rfl

/-- The devices' contributions to an element add up to the element of the whole product. -/
theorem sum_share (h : Holds m x w) (r : Fin 4096) (l : Fin 8192) :
    ∑ d : Dev nD, share m d r l = (dotR x w : Cert.ReferenceIdeal.S4096x8192.Idx → Ideal .f32) (ix2 r l) := by
  rw [dotR_apply]
  refine Finset.sum_congr rfl fun d _ => Finset.sum_congr rfl fun k _ => ?_
  exact congrArg₂ (· * ·) (xAt_eq h d r k) (wAt_eq h d k l)

/-- The activation as the reference associates its cubic. -/
theorem gelu_eq (t : EReal) :
    gelu t = (Ideal.ofBits .f32 0x3F000000#32 * t) * (Ideal.ofBits .f32 0x3F800000#32
      + Ideal.tanh (Ideal.ofBits .f32 0x3F4C422A#32 * (t + Ideal.ofBits .f32 0x3D372713#32 * (t * t * t)))) := by
  unfold gelu
  simp only [mul_assoc]

/-- A device's result array is its block of rows of the reference's result. -/
theorem out_eq (h : Holds m x w) (c : Dev nD) (g : (main_v1 : Ref sig .tc).ty.Contents (Elt Ideal)) (hg : OutOK m c g) :
    g = Layout.block ⟨2, ![512, 8192]⟩ ⟨2, ![4096, 8192]⟩ 0 8 c (outR (dotR x w)) := by
  refine funext fun (i : S512x8192.Idx) => ?_
  obtain ⟨r, l, rfl⟩ : ∃ (r : Fin 512) (l : Fin 8192), i = ix2 r l := ⟨i 0, i 1, eq_ix2 i⟩
  have e : (Layout.block ⟨2, ![512, 8192]⟩ ⟨2, ![4096, 8192]⟩ 0 8 c (outR (dotR x w))) (ix2 r l)
      = (outR (dotR x w) : Cert.ReferenceIdeal.S4096x8192.Idx → Ideal .f32) (ix2 (rowAt c r) l) := by
    refine congrArg (outR (dotR x w) : Cert.ReferenceIdeal.S4096x8192.Idx → Ideal .f32) (funext fun (a : Fin 2) => Fin.ext ?_)
    match a with
    | 0 => show c.val * 512 + r.val = 512 * c.val + r.val; omega
    | 1 => rfl
  refine (out_apply m c g hg r l).trans (Eq.trans ?_ e.symm)
  rw [outR_apply, sum_share h, gelu_eq]

end Cert.KernelIdeal.Ring

end
-- ==== Proof.lean ====
/-
  The claims: the kernel and its reading over the extended reals run on eight devices without fault, end with every semaphore at
  zero and leave their arguments unchanged; and each device's result is its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.K.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs on the eight devices without fault, leaves its arguments as they were and every semaphore at zero. -/
theorem frame_kernel : @Cert.quiescent_Kernel Cert.Kernel.Gen.facts := fun m g _ =>
  (θ_run _ _ _).mono (fun _ h => ⟨fun c => ⟨(h.1 c).2.1, (h.1 c).2.2⟩, h.2⟩) (Cert.Kernel.Ring.run m g)

/-- So does the kernel read over the extended reals. -/
theorem frame_kernelIdeal : @Cert.quiescent_KernelIdeal Cert.KernelIdeal.Gen.facts := fun m g _ =>
  (θ_run _ _ _).mono (fun _ h => ⟨fun c => ⟨(h.1 c).2.1, (h.1 c).2.2⟩, h.2⟩) (Cert.KernelIdeal.Ring.run m g)

/-- The reference runs, leaves its arguments as they were, and has no semaphore. -/
theorem frame_reference : @Cert.quiescent_ReferenceIdeal Cert.ReferenceIdeal.Gen.facts := fun m g _ =>
  (θ_run _ _ _).mono (fun r h => ⟨fun c => ⟨(h c).2.1, (h c).2.2⟩, sem_eq_zero_of_no_sems rfl r.2⟩) (Cert.ReferenceIdeal.Value.run m g)

/-- From memories where every device holds its columns of the first array and its rows of the second, each device's result
    array ends holding its rows of what the reference computes of the two arrays. -/
theorem value : @Cert.algebraic_KernelIdeal_ReferenceIdeal Cert.KernelIdeal.Gen.facts Cert.ReferenceIdeal.Gen.facts :=
  fun m g m' g' _ hm =>
    ⟨_, (θ_run _ _ _).mono (fun _ h c => ⟨Cert.KernelIdeal.Ring.out_eq hm c _ (h.1 c).1, (h.1 c).2.1, (h.1 c).2.2⟩)
        (Cert.KernelIdeal.Ring.run m g),
      (θ_run _ _ _).mono (fun _ h => h 0) (Cert.ReferenceIdeal.Value.run m' g')⟩

/-- All the claims. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
